-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pooled_above_floor [hPre_pooled_above_floor : Cert.Pre_pooled_above_floor.Facts] (m : (ℓ : Loc Cert.KernelIdeal.nD Cert.KernelIdeal.τ Cert.KernelIdeal.sig) → Buf (Elt Ideal) ℓ) : Prop :=
  ∀ c : Dev Cert.KernelIdeal.nD,
    (Cert.Pre_pooled_above_floor.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pooled_above_floor [hPre_pooled_above_floor : Cert.Pre_pooled_above_floor.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pooled_above_floor.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_pooled_above_floor [hKernelIdeal : Cert.KernelIdeal.Facts] [hPre_pooled_above_floor : Cert.Pre_pooled_above_floor.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pooled_above_floor m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_pooled_above_floor [hReferenceIdeal : Cert.ReferenceIdeal.Facts] [hPre_pooled_above_floor : Cert.Pre_pooled_above_floor.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pooled_above_floor m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_pooled_above_floor [hKernelIdeal : Cert.KernelIdeal.Facts] [hReferenceIdeal : Cert.ReferenceIdeal.Facts] [hPre_pooled_above_floor : Cert.Pre_pooled_above_floor.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pooled_above_floor m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_pooled_above_floor : Cert.Pre_pooled_above_floor.Facts),
    quiescent_Kernel (hKernel := hKernel)
    ∧ quiescent_KernelIdeal (hKernelIdeal := hKernelIdeal)
    ∧ quiescent_KernelIdeal_pre_pooled_above_floor (hKernelIdeal := hKernelIdeal) (hPre_pooled_above_floor := hPre_pooled_above_floor)
    ∧ quiescent_ReferenceIdeal (hReferenceIdeal := hReferenceIdeal)
    ∧ quiescent_ReferenceIdeal_pre_pooled_above_floor (hReferenceIdeal := hReferenceIdeal) (hPre_pooled_above_floor := hPre_pooled_above_floor)
    ∧ preserves_Kernel_KernelIdeal
    ∧ algebraic_KernelIdeal_ReferenceIdeal_pre_pooled_above_floor (hKernelIdeal := hKernelIdeal) (hReferenceIdeal := hReferenceIdeal) (hPre_pooled_above_floor := hPre_pooled_above_floor)
-- ==== Pre_pooled_above_floor.lean ====
abbrev S8x2048x65 : Shape := ⟨3, ![8, 2048, 65]⟩
abbrev S8x2048x2048 : Shape := ⟨3, ![8, 2048, 2048]⟩
abbrev S64x32 : Shape := ⟨2, ![64, 32]⟩
abbrev S32 : Shape := ⟨1, ![32]⟩
abbrev S64x512 : Shape := ⟨2, ![64, 512]⟩
abbrev S512 : Shape := ⟨1, ![512]⟩
abbrev S512x128 : Shape := ⟨2, ![512, 128]⟩
abbrev S128 : Shape := ⟨1, ![128]⟩
abbrev S8x2048x1 : Shape := ⟨3, ![8, 2048, 1]⟩
abbrev S8x2048 : Shape := ⟨2, ![8, 2048]⟩
abbrev S_ : Shape := ⟨0, ![]⟩
abbrev S8x2048x64 : Shape := ⟨3, ![8, 2048, 64]⟩
abbrev S8x2048x32 : Shape := ⟨3, ![8, 2048, 32]⟩
abbrev S1x1x32 : Shape := ⟨3, ![1, 1, 32]⟩
abbrev S8 : Shape := ⟨1, ![8]⟩
abbrev S8x1 : Shape := ⟨2, ![8, 1]⟩
abbrev S8x32 : Shape := ⟨2, ![8, 32]⟩

class Facts : Prop where
  slices_S8x2048x65_S8x2048x1_0_0_64 : S8x2048x65.Slices ![0, 0, 64] S8x2048x1
  shapeCasts_S8x2048x1_S8x2048 : S8x2048x1.ShapeCasts S8x2048
  bcast_S_S8x2048 : S_.BroadcastsInDim S8x2048 (![] : Fin 0 → Fin S8x2048.rank)
  slices_S8x2048x65_S8x2048x64_0_0_0 : S8x2048x65.Slices ![0, 0, 0] S8x2048x64
  bcast_S32_S1x1x32_2 : S32.BroadcastsInDim S1x1x32 (![2] : Fin 1 → Fin S1x1x32.rank)
  bcast_S1x1x32_S8x2048x32_0_1_2 : S1x1x32.BroadcastsInDim S8x2048x32 (![0, 1, 2] : Fin 3 → Fin S8x2048x32.rank)
  reducesTo_S8x2048_S8_d1 : S8x2048.ReducesTo [1] S8
  h_S_ : 0 < S_.numel
  bcast_S8_S8x1_0 : S8.BroadcastsInDim S8x1 (![0] : Fin 1 → Fin S8x1.rank)
  reducesTo_S8x2048x32_S8x32_d1 : S8x2048x32.ReducesTo [1] S8x32
  bcast_S_S8x32 : S_.BroadcastsInDim S8x32 (![] : Fin 0 → Fin S8x32.rank)
  bcast_S8x1_S8x32_0_1 : S8x1.BroadcastsInDim S8x32 (![0, 1] : Fin 2 → Fin S8x32.rank)
  dot_S8x2048x64_S64x32_S8x2048x32_2_0_01_1_n_n_wf : DotDims.WF S8x2048x64 S64x32 S8x2048x32 [2] [0] [0, 1] [1] [] []
  dot_S8x2048x2048_S8x2048x32_S8x2048x32_2_1_1_2_0_0_wf : DotDims.WF S8x2048x2048 S8x2048x32 S8x2048x32 [2] [1] [1] [2] [0] [0]

variable [Facts]

def dot_S8x2048x64_S64x32_S8x2048x32_2_0_01_1_n_n : DotDims S8x2048x64 S64x32 S8x2048x32 where
  lhsContracting := [2]
  rhsContracting := [0]
  lhsNonContracting := [0, 1]
  rhsNonContracting := [1]
  lhsBatch := []
  rhsBatch := []
  wf := dot_S8x2048x64_S64x32_S8x2048x32_2_0_01_1_n_n_wf
def dot_S8x2048x2048_S8x2048x32_S8x2048x32_2_1_1_2_0_0 : DotDims S8x2048x2048 S8x2048x32 S8x2048x32 where
  lhsContracting := [2]
  rhsContracting := [1]
  lhsNonContracting := [1]
  rhsNonContracting := [2]
  lhsBatch := [0]
  rhsBatch := [0]
  wf := dot_S8x2048x2048_S8x2048x32_S8x2048x32_2_1_1_2_0_0_wf
def fn {F : FTy → Type} [FloatOps F] (main_arg0 : FVec F S8x2048x65 .f32) (main_arg1 : FVec F S8x2048x2048 .f32) (main_arg2 : FVec F S64x32 .f32) (main_arg3 : FVec F S32 .f32) (main_arg4 : FVec F S64x512 .f32) (main_arg5 : FVec F S512 .f32) (main_arg6 : FVec F S512x128 .f32) (main_arg7 : FVec F S128 .f32) : IVec S8x32 1 :=
  let main_v0 : FVec F S8x2048x1 .f32 := (extractStridedSlice S8x2048x1 ![0, 0, 64] · slices_S8x2048x65_S8x2048x1_0_0_64) main_arg0
  let main_v1 : FVec F S8x2048 .f32 := shapeCast S8x2048 main_v0 shapeCasts_S8x2048x1_S8x2048
  let main_cst : FVec F S_ .f32 := constant S_ .f32 0x00000000#32
  let main_v2 : FVec F S8x2048 .f32 := broadcastInDim S8x2048 ![] bcast_S_S8x2048 main_cst
  let main_v3 : IVec S8x2048 1 := cmpf .une main_v1 main_v2
  let main_v4 : FVec F S8x2048x64 .f32 := (extractStridedSlice S8x2048x64 ![0, 0, 0] · slices_S8x2048x65_S8x2048x64_0_0_0) main_arg0
  let main_v5 : FVec F S8x2048x32 .f32 := (fun l r => Host.dotGeneral dot_S8x2048x64_S64x32_S8x2048x32_2_0_01_1_n_n none l r) main_v4 main_arg2
  let main_v6 : FVec F S8x2048x32 .f32 := (fun l r => Host.dotGeneral dot_S8x2048x2048_S8x2048x32_S8x2048x32_2_1_1_2_0_0 none l r) main_arg1 main_v5
  let main_v7 : FVec F S1x1x32 .f32 := broadcastInDim S1x1x32 ![2] bcast_S32_S1x1x32_2 main_arg3
  let main_v8 : FVec F S8x2048x32 .f32 := broadcastInDim S8x2048x32 ![0, 1, 2] bcast_S1x1x32_S8x2048x32_0_1_2 main_v7
  let main_v9 : FVec F S8x2048x32 .f32 := addf main_v6 main_v8
  let main_v10 : IVec S8x2048 1 := noti main_v3
  let main_c : IVec S_ 1 := constantI S_ 1 0#1
  let main_v11 : IVec S8 1 := (fun x v => Host.reduce IntOp.ori x v reducesTo_S8x2048_S8_d1 h_S_) main_v10 main_c
  let main_v12 : IVec S8x1 1 := broadcastInDim S8x1 ![0] bcast_S8_S8x1_0 main_v11
  let main_cst_0 : FVec F S_ .f32 := constant S_ .f32 0xFF800000#32
  let main_v13 : FVec F S8x32 .f32 := (fun x v => Host.reduce FloatOps.maximumf x v reducesTo_S8x2048x32_S8x32_d1 h_S_) main_v9 main_cst_0
  let main_cst_1 : FVec F S_ .f32 := constant S_ .f32 0xCE6E6B28#32
  let main_v14 : FVec F S8x32 .f32 := broadcastInDim S8x32 ![] bcast_S_S8x32 main_cst_1
  let main_v15 : IVec S8x32 1 := cmpf .oge main_v13 main_v14
  let main_v16 : IVec S8x32 1 := broadcastInDim S8x32 ![0, 1] bcast_S8x1_S8x32_0_1 main_v12
  let main_v17 : IVec S8x32 1 := ori main_v16 main_v15
  main_v17
-- ==== Kernel.lean ====
abbrev S8x2048x65 : Shape := ⟨3, ![8, 2048, 65]⟩
abbrev S8x2048x2048 : Shape := ⟨3, ![8, 2048, 2048]⟩
abbrev S64x32 : Shape := ⟨2, ![64, 32]⟩
abbrev S32 : Shape := ⟨1, ![32]⟩
abbrev S64x512 : Shape := ⟨2, ![64, 512]⟩
abbrev S512 : Shape := ⟨1, ![512]⟩
abbrev S512x128 : Shape := ⟨2, ![512, 128]⟩
abbrev S128 : Shape := ⟨1, ![128]⟩
abbrev S1x32 : Shape := ⟨2, ![1, 32]⟩
abbrev S1x512 : Shape := ⟨2, ![1, 512]⟩
abbrev S1x128 : Shape := ⟨2, ![1, 128]⟩
abbrev S8x1x128 : Shape := ⟨3, ![8, 1, 128]⟩
abbrev S8x128 : Shape := ⟨2, ![8, 128]⟩
abbrev S8x2048x32 : Shape := ⟨3, ![8, 2048, 32]⟩
abbrev S512x32 : Shape := ⟨2, ![512, 32]⟩
abbrev S1x2048x64 : Shape := ⟨3, ![1, 2048, 64]⟩
abbrev S2048x64 : Shape := ⟨2, ![2048, 64]⟩
abbrev S2048x32 : Shape := ⟨2, ![2048, 32]⟩
abbrev S1x2048x32 : Shape := ⟨3, ![1, 2048, 32]⟩
abbrev S4x1x512x2048 : Shape := ⟨4, ![4, 1, 512, 2048]⟩
abbrev S4 : Shape := ⟨1, ![4]⟩
abbrev S1 : Shape := ⟨1, ![1]⟩
abbrev S_ : Shape := ⟨0, ![]⟩
abbrev S1x1x512x2048 : Shape := ⟨4, ![1, 1, 512, 2048]⟩
abbrev S1x512x2048 : Shape := ⟨3, ![1, 512, 2048]⟩
abbrev S512x2048 : Shape := ⟨2, ![512, 2048]⟩
abbrev S1x512x1 : Shape := ⟨3, ![1, 512, 1]⟩
abbrev S512x1 : Shape := ⟨2, ![512, 1]⟩
abbrev S1x2048x1 : Shape := ⟨3, ![1, 2048, 1]⟩
abbrev S2048x1 : Shape := ⟨2, ![2048, 1]⟩
abbrev S1x1x1 : Shape := ⟨3, ![1, 1, 1]⟩
abbrev S1x64 : Shape := ⟨2, ![1, 64]⟩
abbrev S1x1x128 : Shape := ⟨3, ![1, 1, 128]⟩

abbrev nBuf : Space → Nat
  | .hbm => 13
  | .vmem => 12
  | .smem => 0
  | _ => 0

abbrev bufTy : (tb : Table) → Fin (tcTables nBuf tb) → BufTy
  | .hbm, ⟨0, _⟩ => ⟨S8x2048x65, .f32⟩
  | .hbm, ⟨1, _⟩ => ⟨S8x2048x2048, .f32⟩
  | .hbm, ⟨2, _⟩ => ⟨S64x32, .f32⟩
  | .hbm, ⟨3, _⟩ => ⟨S32, .f32⟩
  | .hbm, ⟨4, _⟩ => ⟨S64x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S1x32, .f32⟩
  | .hbm, ⟨9, _⟩ => ⟨S1x512, .f32⟩
  | .hbm, ⟨10, _⟩ => ⟨S1x128, .f32⟩
  | .hbm, ⟨11, _⟩ => ⟨S8x1x128, .f32⟩
  | .hbm, ⟨12, _⟩ => ⟨S8x128, .f32⟩
  | .local _ .vmem, ⟨0, _⟩ => ⟨S8x2048x65, .f32⟩
  | .local _ .vmem, ⟨1, _⟩ => ⟨S64x32, .f32⟩
  | .local _ .vmem, ⟨2, _⟩ => ⟨S1x32, .f32⟩
  | .local _ .vmem, ⟨3, _⟩ => ⟨S64x512, .f32⟩
  | .local _ .vmem, ⟨4, _⟩ => ⟨S1x512, .f32⟩
  | .local _ .vmem, ⟨5, _⟩ => ⟨S512x128, .f32⟩
  | .local _ .vmem, ⟨6, _⟩ => ⟨S1x128, .f32⟩
  | .local _ .vmem, ⟨7, _⟩ => ⟨S8x1x128, .f32⟩
  | .local _ .vmem, ⟨8, _⟩ => ⟨S8x2048x32, .f32⟩
  | .local _ .vmem, ⟨9, _⟩ => ⟨S512x32, .f32⟩
  | .local _ .vmem, ⟨10, _⟩ => ⟨S512x32, .f32⟩
  | .local _ .vmem, ⟨11, _⟩ => ⟨S4x1x512x2048, .f32⟩
  | _, _ => ⟨S8x2048x65, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_v0 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scoped0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg12 : BitVec 32 := Scf.iv c0_i32 c1_i32 k0_t1
  let v1 : Index := Scalar.indexCast arg12
  let c0 : Index := 0#32
  let c0_1 : Index := 0#32
  ![v1.toNat, 0, 0]
def k0_off2 (k0_t1 : Fin k0_t1_loop.trips) : Fin 3 → Nat :=
  let c0_i32 : BitVec 32 := 0#32
  let c1_i32 : BitVec 32 := 1#32
  let arg12 : BitVec 32 := Scf.iv c0_i32 c1_i32 k0_t1
  let v6 : Index := Scalar.indexCast arg12
  let c0_4 : Index := 0#32
  let c0_5 : Index := 0#32
  ![v6.toNat, 0, 0]
def k0_off3 : Fin 1 → Nat :=
  let c0_i32_49_r0 : BitVec 32 := 0#32
  let c4_i32_50_r0 : BitVec 32 := 4#32
  let v50_r0 : BitVec 32 := Scalar.remui c0_i32_49_r0 c4_i32_50_r0
  ![v50_r0.toNat]
def k0_off4 : Fin 4 → Nat :=
  let c0_i32_49_r0 : BitVec 32 := 0#32
  let c4_i32_50_r0 : BitVec 32 := 4#32
  let v50_r0 : BitVec 32 := Scalar.remui c0_i32_49_r0 c4_i32_50_r0
  let c0_i32_52_r0 : BitVec 32 := 0#32
  let c0_i32_53_r0 : BitVec 32 := 0#32
  let c0_i32_54_r0 : BitVec 32 := 0#32
  ![v50_r0.toNat, 0, 0, 0]
def k0_off5 : Fin 3 → Nat :=
  let c1_i32_51_r0 : BitVec 32 := 1#32
  let c0_i32_45_r0 : BitVec 32 := 0#32
  let c0_i32_46_r0 : BitVec 32 := 0#32
  let v48_r0 : BitVec 32 := Scalar.addi c0_i32_45_r0 c0_i32_46_r0
  let v51_r0 : BitVec 32 := Scalar.muli c1_i32_51_r0 v48_r0
  let c512_i32_r0 : BitVec 32 := 512#32
  let c0_i32_47_r0 : BitVec 32 := 0#32
  let c0_i32_48_r0 : BitVec 32 := 0#32
  let v49_r0 : BitVec 32 := Scalar.addi c0_i32_47_r0 c0_i32_48_r0
  let v52_r0 : BitVec 32 := Scalar.muli c512_i32_r0 v49_r0
  let c0_i32_55_r0 : BitVec 32 := 0#32
  ![v51_r0.toNat, v52_r0.toNat, 0]
def k0_off6 (arg16_r0 : BitVec 32) : Fin 1 → Nat :=
  let c4_i32_155_r0 : BitVec 32 := 4#32
  let v163_r0 : BitVec 32 := Scalar.remui arg16_r0 c4_i32_155_r0
  ![v163_r0.toNat]
def k0_cond1 (arg12_r0 : BitVec 32) (arg13_r0 : BitVec 32) (arg14_r0 : BitVec 32) (arg15_r0 : BitVec 32) : BitVec 1 :=
  let c0_i32_143_r0 : BitVec 32 := 0#32
  let v145_r0 : BitVec 32 := Scalar.addi arg12_r0 c0_i32_143_r0
  let c0_i32_145_r0 : BitVec 32 := 0#32
  let v147_r0 : BitVec 32 := Scalar.addi arg14_r0 c0_i32_145_r0
  let v149_r0 : BitVec 1 := Scalar.cmpi .ne v145_r0 v147_r0
  let c0_i32_144_r0 : BitVec 32 := 0#32
  let v146_r0 : BitVec 32 := Scalar.addi arg13_r0 c0_i32_144_r0
  let c0_i32_146_r0 : BitVec 32 := 0#32
  let v148_r0 : BitVec 32 := Scalar.addi arg15_r0 c0_i32_146_r0
  let v150_r0 : BitVec 1 := Scalar.cmpi .ne v146_r0 v148_r0
  let v151_r0 : BitVec 1 := Scalar.ori v149_r0 v150_r0
  let v152_r0 : BitVec 32 := Scalar.extui v151_r0
  let c0_i32_147_r0 : BitVec 32 := 0#32
  let v153_r0 : BitVec 1 := Scalar.cmpi .ne v152_r0 c0_i32_147_r0
  v153_r0

def k0_off7 (arg16_r0 : BitVec 32) : Fin 4 → Nat :=
  let c4_i32_155_r0 : BitVec 32 := 4#32
  let v163_r0 : BitVec 32 := Scalar.remui arg16_r0 c4_i32_155_r0
  let c0_i32_158_r0 : BitVec 32 := 0#32
  let c0_i32_159_r0 : BitVec 32 := 0#32
  let c0_i32_160_r0 : BitVec 32 := 0#32
  ![v163_r0.toNat, 0, 0, 0]

def k0_chk1 (arg12_r0 : BitVec 32) (arg13_r0 : BitVec 32) (arg14_r0 : BitVec 32) (arg15_r0 : BitVec 32) (arg16_r0 : BitVec 32) : Prop :=
  (∀ (k0_h1 : k0_cond1 arg12_r0 arg13_r0 arg14_r0 arg15_r0 = 1#1), ∀ a, (k0_off6 arg16_r0) a + S1.size a ≤ S4.size a) ∧
  (∀ (k0_h1 : k0_cond1 arg12_r0 arg13_r0 arg14_r0 arg15_r0 = 1#1), ∀ a, (k0_off7 arg16_r0) a + S1x1x512x2048.size a ≤ S4x1x512x2048.size a)
theorem k0_off6_inb : ∀ (arg12_r0 : BitVec 32) (arg13_r0 : BitVec 32) (arg14_r0 : BitVec 32) (arg15_r0 : BitVec 32) (arg16_r0 : BitVec 32) (k0_hw1 : k0_chk1 arg12_r0 arg13_r0 arg14_r0 arg15_r0 arg16_r0), ∀ (k0_h1 : k0_cond1 arg12_r0 arg13_r0 arg14_r0 arg15_r0 = 1#1), ∀ a, (k0_off6 arg16_r0) a + S1.size a ≤ S4.size a := fun arg12_r0 arg13_r0 arg14_r0 arg15_r0 arg16_r0 k0_hw1 k0_h1 => k0_hw1.1 k0_h1
theorem k0_off7_inb : ∀ (arg12_r0 : BitVec 32) (arg13_r0 : BitVec 32) (arg14_r0 : BitVec 32) (arg15_r0 : BitVec 32) (arg16_r0 : BitVec 32) (k0_hw1 : k0_chk1 arg12_r0 arg13_r0 arg14_r0 arg15_r0 arg16_r0), ∀ (k0_h1 : k0_cond1 arg12_r0 arg13_r0 arg14_r0 arg15_r0 = 1#1), ∀ a, (k0_off7 arg16_r0) a + S1x1x512x2048.size a ≤ S4x1x512x2048.size a := fun arg12_r0 arg13_r0 arg14_r0 arg15_r0 arg16_r0 k0_hw1 k0_h1 => k0_hw1.2 k0_h1

def k0_off8 (arg14_r0 : BitVec 32) (arg15_r0 : BitVec 32) : Fin 3 → Nat :=
  let c1_i32_156_r0 : BitVec 32 := 1#32
  let c0_i32_145_r0 : BitVec 32 := 0#32
  let v147_r0 : BitVec 32 := Scalar.addi arg14_r0 c0_i32_145_r0
  let v164_r0 : BitVec 32 := Scalar.muli c1_i32_156_r0 v147_r0
  let c512_i32_157_r0 : BitVec 32 := 512#32
  let c0_i32_146_r0 : BitVec 32 := 0#32
  let v148_r0 : BitVec 32 := Scalar.addi arg15_r0 c0_i32_146_r0
  let v165_r0 : BitVec 32 := Scalar.muli c512_i32_157_r0 v148_r0
  let c0_i32_161_r0 : BitVec 32 := 0#32
  ![v164_r0.toNat, v165_r0.toNat, 0]

def k0_chk2 (arg12_r0 : BitVec 32) (arg13_r0 : BitVec 32) (arg14_r0 : BitVec 32) (arg15_r0 : BitVec 32) : Prop :=
  (∀ (k0_h1 : k0_cond1 arg12_r0 arg13_r0 arg14_r0 arg15_r0 = 1#1), ∀ a, (k0_off8 arg14_r0 arg15_r0) a + S1x512x2048.size a ≤ S8x2048x2048.size a)
theorem k0_off8_inb : ∀ (arg12_r0 : BitVec 32) (arg13_r0 : BitVec 32) (arg14_r0 : BitVec 32) (arg15_r0 : BitVec 32) (k0_hw2 : k0_chk2 arg12_r0 arg13_r0 arg14_r0 arg15_r0), ∀ (k0_h1 : k0_cond1 arg12_r0 arg13_r0 arg14_r0 arg15_r0 = 1#1), ∀ a, (k0_off8 arg14_r0 arg15_r0) a + S1x512x2048.size a ≤ S8x2048x2048.size a := fun arg12_r0 arg13_r0 arg14_r0 arg15_r0 k0_hw2 k0_h1 => k0_hw2 k0_h1

def k0_off9 (arg16_r0 : BitVec 32) : Fin 1 → Nat :=
  let c4_i32_155_r0 : BitVec 32 := 4#32
  let v163_r0 : BitVec 32 := Scalar.remui arg16_r0 c4_i32_155_r0
  ![v163_r0.toNat]
def k0_cond2 (arg12_r0 : BitVec 32) (arg13_r0 : BitVec 32) (arg14_r0 : BitVec 32) (arg15_r0 : BitVec 32) : BitVec 1 :=
  let c0_i32_143_r0 : BitVec 32 := 0#32
  let v145_r0 : BitVec 32 := Scalar.addi arg12_r0 c0_i32_143_r0
  let c0_i32_145_r0 : BitVec 32 := 0#32
  let v147_r0 : BitVec 32 := Scalar.addi arg14_r0 c0_i32_145_r0
  let v149_r0 : BitVec 1 := Scalar.cmpi .ne v145_r0 v147_r0
  let c0_i32_144_r0 : BitVec 32 := 0#32
  let v146_r0 : BitVec 32 := Scalar.addi arg13_r0 c0_i32_144_r0
  let c0_i32_146_r0 : BitVec 32 := 0#32
  let v148_r0 : BitVec 32 := Scalar.addi arg15_r0 c0_i32_146_r0
  let v150_r0 : BitVec 1 := Scalar.cmpi .ne v146_r0 v148_r0
  let v151_r0 : BitVec 1 := Scalar.ori v149_r0 v150_r0
  let v152_r0 : BitVec 32 := Scalar.extui v151_r0
  let c0_i32_147_r0 : BitVec 32 := 0#32
  let v153_r0 : BitVec 1 := Scalar.cmpi .ne v152_r0 c0_i32_147_r0
  v153_r0

def k0_off10 (arg16_r0 : BitVec 32) : Fin 4 → Nat :=
  let c4_i32_155_r0 : BitVec 32 := 4#32
  let v163_r0 : BitVec 32 := Scalar.remui arg16_r0 c4_i32_155_r0
  let c0_i32_158_r0 : BitVec 32 := 0#32
  let c0_i32_159_r0 : BitVec 32 := 0#32
  let c0_i32_160_r0 : BitVec 32 := 0#32
  ![v163_r0.toNat, 0, 0, 0]

def k0_chk3 (arg12_r0 : BitVec 32) (arg13_r0 : BitVec 32) (arg14_r0 : BitVec 32) (arg15_r0 : BitVec 32) (arg16_r0 : BitVec 32) : Prop :=
  (∀ (k0_h2 : k0_cond2 arg12_r0 arg13_r0 arg14_r0 arg15_r0 = 1#1), ∀ a, (k0_off9 arg16_r0) a + S1.size a ≤ S4.size a) ∧
  (∀ (k0_h2 : k0_cond2 arg12_r0 arg13_r0 arg14_r0 arg15_r0 = 1#1), ∀ a, (k0_off10 arg16_r0) a + S1x1x512x2048.size a ≤ S4x1x512x2048.size a)
theorem k0_off9_inb : ∀ (arg12_r0 : BitVec 32) (arg13_r0 : BitVec 32) (arg14_r0 : BitVec 32) (arg15_r0 : BitVec 32) (arg16_r0 : BitVec 32) (k0_hw3 : k0_chk3 arg12_r0 arg13_r0 arg14_r0 arg15_r0 arg16_r0), ∀ (k0_h2 : k0_cond2 arg12_r0 arg13_r0 arg14_r0 arg15_r0 = 1#1), ∀ a, (k0_off9 arg16_r0) a + S1.size a ≤ S4.size a := fun arg12_r0 arg13_r0 arg14_r0 arg15_r0 arg16_r0 k0_hw3 k0_h2 => k0_hw3.1 k0_h2
theorem k0_off10_inb : ∀ (arg12_r0 : BitVec 32) (arg13_r0 : BitVec 32) (arg14_r0 : BitVec 32) (arg15_r0 : BitVec 32) (arg16_r0 : BitVec 32) (k0_hw3 : k0_chk3 arg12_r0 arg13_r0 arg14_r0 arg15_r0 arg16_r0), ∀ (k0_h2 : k0_cond2 arg12_r0 arg13_r0 arg14_r0 arg15_r0 = 1#1), ∀ a, (k0_off10 arg16_r0) a + S1x1x512x2048.size a ≤ S4x1x512x2048.size a := fun arg12_r0 arg13_r0 arg14_r0 arg15_r0 arg16_r0 k0_hw3 k0_h2 => k0_hw3.2 k0_h2

def k0_off11 (arg14_r0 : BitVec 32) (arg15_r0 : BitVec 32) : Fin 3 → Nat :=
  let c1_i32_156_r0 : BitVec 32 := 1#32
  let c0_i32_145_r0 : BitVec 32 := 0#32
  let v147_r0 : BitVec 32 := Scalar.addi arg14_r0 c0_i32_145_r0
  let v164_r0 : BitVec 32 := Scalar.muli c1_i32_156_r0 v147_r0
  let c512_i32_157_r0 : BitVec 32 := 512#32
  let c0_i32_146_r0 : BitVec 32 := 0#32
  let v148_r0 : BitVec 32 := Scalar.addi arg15_r0 c0_i32_146_r0
  let v165_r0 : BitVec 32 := Scalar.muli c512_i32_157_r0 v148_r0
  let c0_i32_161_r0 : BitVec 32 := 0#32
  ![v164_r0.toNat, v165_r0.toNat, 0]

def k0_chk4 (arg12_r0 : BitVec 32) (arg13_r0 : BitVec 32) (arg14_r0 : BitVec 32) (arg15_r0 : BitVec 32) : Prop :=
  (∀ (k0_h2 : k0_cond2 arg12_r0 arg13_r0 arg14_r0 arg15_r0 = 1#1), ∀ a, (k0_off11 arg14_r0 arg15_r0) a + S1x512x2048.size a ≤ S8x2048x2048.size a)
theorem k0_off11_inb : ∀ (arg12_r0 : BitVec 32) (arg13_r0 : BitVec 32) (arg14_r0 : BitVec 32) (arg15_r0 : BitVec 32) (k0_hw4 : k0_chk4 arg12_r0 arg13_r0 arg14_r0 arg15_r0), ∀ (k0_h2 : k0_cond2 arg12_r0 arg13_r0 arg14_r0 arg15_r0 = 1#1), ∀ a, (k0_off11 arg14_r0 arg15_r0) a + S1x512x2048.size a ≤ S8x2048x2048.size a := fun arg12_r0 arg13_r0 arg14_r0 arg15_r0 k0_hw4 k0_h2 => k0_hw4 k0_h2

@[reducible] def k0_t2_loop : Scf.Loop 32 :=
  let c0_i32_86_r0 : BitVec 32 := 0#32
  let c32_i32_r0 : BitVec 32 := 32#32
  let v83_r0 : BitVec 32 := Scalar.addi c0_i32_86_r0 c32_i32_r0
  let c1_i32_87_r0 : BitVec 32 := 1#32
  ⟨c0_i32_86_r0, v83_r0, c1_i32_87_r0⟩
def k0_off12 (arg23_r0 : BitVec 32) : Fin 1 → Nat :=
  let c4_i32_245_r0 : BitVec 32 := 4#32
  let v302_r0 : BitVec 32 := Scalar.remui arg23_r0 c4_i32_245_r0
  ![v302_r0.toNat]
def k0_cond3 (arg19_r0 : BitVec 32) (arg20_r0 : BitVec 32) (arg21_r0 : BitVec 32) (arg22_r0 : BitVec 32) : BitVec 1 :=
  let c0_i32_233_r0 : BitVec 32 := 0#32
  let v284_r0 : BitVec 32 := Scalar.addi arg19_r0 c0_i32_233_r0
  let c0_i32_235_r0 : BitVec 32 := 0#32
  let v286_r0 : BitVec 32 := Scalar.addi arg21_r0 c0_i32_235_r0
  let v288_r0 : BitVec 1 := Scalar.cmpi .ne v284_r0 v286_r0
  let c0_i32_234_r0 : BitVec 32 := 0#32
  let v285_r0 : BitVec 32 := Scalar.addi arg20_r0 c0_i32_234_r0
  let c0_i32_236_r0 : BitVec 32 := 0#32
  let v287_r0 : BitVec 32 := Scalar.addi arg22_r0 c0_i32_236_r0
  let v289_r0 : BitVec 1 := Scalar.cmpi .ne v285_r0 v287_r0
  let v290_r0 : BitVec 1 := Scalar.ori v288_r0 v289_r0
  let v291_r0 : BitVec 32 := Scalar.extui v290_r0
  let c0_i32_237_r0 : BitVec 32 := 0#32
  let v292_r0 : BitVec 1 := Scalar.cmpi .ne v291_r0 c0_i32_237_r0
  v292_r0

def k0_off13 (arg23_r0 : BitVec 32) : Fin 4 → Nat :=
  let c4_i32_245_r0 : BitVec 32 := 4#32
  let v302_r0 : BitVec 32 := Scalar.remui arg23_r0 c4_i32_245_r0
  let c0_i32_248_r0 : BitVec 32 := 0#32
  let c0_i32_249_r0 : BitVec 32 := 0#32
  let c0_i32_250_r0 : BitVec 32 := 0#32
  ![v302_r0.toNat, 0, 0, 0]

def k0_chk5 (arg19_r0 : BitVec 32) (arg20_r0 : BitVec 32) (arg21_r0 : BitVec 32) (arg22_r0 : BitVec 32) (arg23_r0 : BitVec 32) : Prop :=
  (∀ (k0_h3 : k0_cond3 arg19_r0 arg20_r0 arg21_r0 arg22_r0 = 1#1), ∀ a, (k0_off12 arg23_r0) a + S1.size a ≤ S4.size a) ∧
  (∀ (k0_h3 : k0_cond3 arg19_r0 arg20_r0 arg21_r0 arg22_r0 = 1#1), ∀ a, (k0_off13 arg23_r0) a + S1x1x512x2048.size a ≤ S4x1x512x2048.size a)
theorem k0_off12_inb : ∀ (arg19_r0 : BitVec 32) (arg20_r0 : BitVec 32) (arg21_r0 : BitVec 32) (arg22_r0 : BitVec 32) (arg23_r0 : BitVec 32) (k0_hw5 : k0_chk5 arg19_r0 arg20_r0 arg21_r0 arg22_r0 arg23_r0), ∀ (k0_h3 : k0_cond3 arg19_r0 arg20_r0 arg21_r0 arg22_r0 = 1#1), ∀ a, (k0_off12 arg23_r0) a + S1.size a ≤ S4.size a := fun arg19_r0 arg20_r0 arg21_r0 arg22_r0 arg23_r0 k0_hw5 k0_h3 => k0_hw5.1 k0_h3
theorem k0_off13_inb : ∀ (arg19_r0 : BitVec 32) (arg20_r0 : BitVec 32) (arg21_r0 : BitVec 32) (arg22_r0 : BitVec 32) (arg23_r0 : BitVec 32) (k0_hw5 : k0_chk5 arg19_r0 arg20_r0 arg21_r0 arg22_r0 arg23_r0), ∀ (k0_h3 : k0_cond3 arg19_r0 arg20_r0 arg21_r0 arg22_r0 = 1#1), ∀ a, (k0_off13 arg23_r0) a + S1x1x512x2048.size a ≤ S4x1x512x2048.size a := fun arg19_r0 arg20_r0 arg21_r0 arg22_r0 arg23_r0 k0_hw5 k0_h3 => k0_hw5.2 k0_h3

def k0_off14 (arg21_r0 : BitVec 32) (arg22_r0 : BitVec 32) : Fin 3 → Nat :=
  let c1_i32_246_r0 : BitVec 32 := 1#32
  let c0_i32_235_r0 : BitVec 32 := 0#32
  let v286_r0 : BitVec 32 := Scalar.addi arg21_r0 c0_i32_235_r0
  let v303_r0 : BitVec 32 := Scalar.muli c1_i32_246_r0 v286_r0
  let c512_i32_247_r0 : BitVec 32 := 512#32
  let c0_i32_236_r0 : BitVec 32 := 0#32
  let v287_r0 : BitVec 32 := Scalar.addi arg22_r0 c0_i32_236_r0
  let v304_r0 : BitVec 32 := Scalar.muli c512_i32_247_r0 v287_r0
  let c0_i32_251_r0 : BitVec 32 := 0#32
  ![v303_r0.toNat, v304_r0.toNat, 0]

def k0_chk6 (arg19_r0 : BitVec 32) (arg20_r0 : BitVec 32) (arg21_r0 : BitVec 32) (arg22_r0 : BitVec 32) : Prop :=
  (∀ (k0_h3 : k0_cond3 arg19_r0 arg20_r0 arg21_r0 arg22_r0 = 1#1), ∀ a, (k0_off14 arg21_r0 arg22_r0) a + S1x512x2048.size a ≤ S8x2048x2048.size a)
theorem k0_off14_inb : ∀ (arg19_r0 : BitVec 32) (arg20_r0 : BitVec 32) (arg21_r0 : BitVec 32) (arg22_r0 : BitVec 32) (k0_hw6 : k0_chk6 arg19_r0 arg20_r0 arg21_r0 arg22_r0), ∀ (k0_h3 : k0_cond3 arg19_r0 arg20_r0 arg21_r0 arg22_r0 = 1#1), ∀ a, (k0_off14 arg21_r0 arg22_r0) a + S1x512x2048.size a ≤ S8x2048x2048.size a := fun arg19_r0 arg20_r0 arg21_r0 arg22_r0 k0_hw6 k0_h3 => k0_hw6 k0_h3

def k0_off15 (arg14_r0 : BitVec 32) : Fin 1 → Nat :=
  let c4_i32_235_r0 : BitVec 32 := 4#32
  let v286_r0 : BitVec 32 := Scalar.remui arg14_r0 c4_i32_235_r0
  ![v286_r0.toNat]
def k0_cond4 (k0_t2 : Fin k0_t2_loop.trips) (arg17_r0 : BitVec 32) (arg18_r0 : BitVec 32) : BitVec 1 :=
  let c0_i32_144_r0 : BitVec 32 := 0#32
  let v147_r0 : BitVec 32 := Scalar.addi arg17_r0 c0_i32_144_r0
  let true_147_r0 : BitVec 1 := 1#1
  let c1_i32_146_r0 : BitVec 32 := 1#32
  let v149_r0 : BitVec 32 := Scalar.subi arg18_r0 c1_i32_146_r0
  let v150_r0 : BitVec 32 := Scalar.select true_147_r0 v149_r0 arg18_r0
  let c_m1_i32_148_r0 : BitVec 32 := 4294967295#32
  let v151_r0 : BitVec 1 := Scalar.cmpi .eq v150_r0 c_m1_i32_148_r0
  let c1_i32_150_r0 : BitVec 32 := 1#32
  let v153_r0 : BitVec 32 := Scalar.subi arg17_r0 c1_i32_150_r0
  let v154_r0 : BitVec 32 := Scalar.select v151_r0 v153_r0 arg17_r0
  let c_m1_i32_151_r0 : BitVec 32 := 4294967295#32
  let v155_r0 : BitVec 1 := Scalar.cmpi .eq v154_r0 c_m1_i32_151_r0
  let c7_i32_152_r0 : BitVec 32 := 7#32
  let v156_r0 : BitVec 32 := Scalar.select v155_r0 c7_i32_152_r0 v154_r0
  let c0_i32_153_r0 : BitVec 32 := 0#32
  let v157_r0 : BitVec 32 := Scalar.addi v156_r0 c0_i32_153_r0
  let v214_r0 : BitVec 1 := Scalar.cmpi .ne v147_r0 v157_r0
  let c0_i32_145_r0 : BitVec 32 := 0#32
  let v148_r0 : BitVec 32 := Scalar.addi arg18_r0 c0_i32_145_r0
  let c3_i32_149_r0 : BitVec 32 := 3#32
  let v152_r0 : BitVec 32 := Scalar.select v151_r0 c3_i32_149_r0 v150_r0
  let c0_i32_154_r0 : BitVec 32 := 0#32
  let v158_r0 : BitVec 32 := Scalar.addi v152_r0 c0_i32_154_r0
  let v215_r0 : BitVec 1 := Scalar.cmpi .ne v148_r0 v158_r0
  let v216_r0 : BitVec 1 := Scalar.ori v214_r0 v215_r0
  let c0_i32_86_r0 : BitVec 32 := 0#32
  let c1_i32_87_r0 : BitVec 32 := 1#32
  let arg12_r0 : BitVec 32 := Scf.iv c0_i32_86_r0 c1_i32_87_r0 k0_t2
  let c0_i32_143_r0 : BitVec 32 := 0#32
  let v145_r0 : BitVec 1 := Scalar.cmpi .eq arg12_r0 c0_i32_143_r0
  let v217_r0 : BitVec 1 := Scalar.ori v216_r0 v145_r0
  let c0_i32_200_r0 : BitVec 32 := 0#32
  let v218_r0 : BitVec 1 := Scalar.cmpi .sge arg12_r0 c0_i32_200_r0
  let v219_r0 : BitVec 1 := Scalar.andi v217_r0 v218_r0
  let v220_r0 : BitVec 32 := Scalar.extui v219_r0
  let c0_i32_201_r0 : BitVec 32 := 0#32
  let v221_r0 : BitVec 1 := Scalar.cmpi .ne v220_r0 c0_i32_201_r0
  v221_r0

def k0_off16 (arg14_r0 : BitVec 32) : Fin 4 → Nat :=
  let c4_i32_235_r0 : BitVec 32 := 4#32
  let v286_r0 : BitVec 32 := Scalar.remui arg14_r0 c4_i32_235_r0
  let c0_i32_236_r0 : BitVec 32 := 0#32
  let c0_i32_237_r0 : BitVec 32 := 0#32
  let c0_i32_238_r0 : BitVec 32 := 0#32
  ![v286_r0.toNat, 0, 0, 0]
def k0_off17 (arg17_r0 : BitVec 32) (arg18_r0 : BitVec 32) : Fin 3 → Nat :=
  let c1_i32_233_r0 : BitVec 32 := 1#32
  let c0_i32_144_r0 : BitVec 32 := 0#32
  let v147_r0 : BitVec 32 := Scalar.addi arg17_r0 c0_i32_144_r0
  let v284_r0 : BitVec 32 := Scalar.muli c1_i32_233_r0 v147_r0
  let c512_i32_234_r0 : BitVec 32 := 512#32
  let c0_i32_145_r0 : BitVec 32 := 0#32
  let v148_r0 : BitVec 32 := Scalar.addi arg18_r0 c0_i32_145_r0
  let v285_r0 : BitVec 32 := Scalar.muli c512_i32_234_r0 v148_r0
  let c0_i32_239_r0 : BitVec 32 := 0#32
  ![v284_r0.toNat, v285_r0.toNat, 0]
def k0_off18 (arg14_r0 : BitVec 32) : Fin 4 → Nat :=
  let c4_i32_202_r0 : BitVec 32 := 4#32
  let v222_r0 : BitVec 32 := Scalar.remui arg14_r0 c4_i32_202_r0
  let c0_i32_203_r0 : BitVec 32 := 0#32
  let c0_i32_204_r0 : BitVec 32 := 0#32
  let c0_i32_205_r0 : BitVec 32 := 0#32
  ![v222_r0.toNat, 0, 0, 0]

def k0_chk8 (arg14_r0 : BitVec 32) : Prop :=
  (∀ a, (k0_off18 arg14_r0) a + S1x1x512x2048.size a ≤ S4x1x512x2048.size a)
theorem k0_off18_inb : ∀ (arg14_r0 : BitVec 32) (k0_hw8 : k0_chk8 arg14_r0), ∀ a, (k0_off18 arg14_r0) a + S1x1x512x2048.size a ≤ S4x1x512x2048.size a := fun arg14_r0 k0_hw8 => k0_hw8

def k0_off19 (arg17_r0 : BitVec 32) : Fin 3 → Nat :=
  let c0_i32_144_r0 : BitVec 32 := 0#32
  let v147_r0 : BitVec 32 := Scalar.addi arg17_r0 c0_i32_144_r0
  let v227_r0 : Index := Scalar.indexCast v147_r0
  let c0_208_r0 : Index := 0#32
  let c0_209_r0 : Index := 0#32
  ![v227_r0.toNat, 0, 0]

def k0_chk9 (arg17_r0 : BitVec 32) : Prop :=
  (∀ a, (k0_off19 arg17_r0) a + S1x2048x32.size a ≤ S8x2048x32.size a)
theorem k0_off19_inb : ∀ (arg17_r0 : BitVec 32) (k0_hw9 : k0_chk9 arg17_r0), ∀ a, (k0_off19 arg17_r0) a + S1x2048x32.size a ≤ S8x2048x32.size a := fun arg17_r0 k0_hw9 => k0_hw9

def k0_off20 (arg17_r0 : BitVec 32) (arg18_r0 : BitVec 32) : Fin 3 → Nat :=
  let c0_i32_144_r0 : BitVec 32 := 0#32
  let v147_r0 : BitVec 32 := Scalar.addi arg17_r0 c0_i32_144_r0
  let v232_r0 : Index := Scalar.indexCast v147_r0
  let c0_i32_145_r0 : BitVec 32 := 0#32
  let v148_r0 : BitVec 32 := Scalar.addi arg18_r0 c0_i32_145_r0
  let c512_i32_210_r0 : BitVec 32 := 512#32
  let v231_r0 : BitVec 32 := Scalar.muli v148_r0 c512_i32_210_r0
  let v233_r0 : Index := Scalar.indexCast v231_r0
  let c64_r0 : Index := 64#32
  ![v232_r0.toNat, v233_r0.toNat, 64]
def k0_off21 (arg17_r0 : BitVec 32) : Fin 3 → Nat :=
  let c0_i32_144_r0 : BitVec 32 := 0#32
  let v147_r0 : BitVec 32 := Scalar.addi arg17_r0 c0_i32_144_r0
  let v284_r0 : Index := Scalar.indexCast v147_r0
  let c0_233_r0 : Index := 0#32
  let c64_234_r0 : Index := 64#32
  ![v284_r0.toNat, 0, 64]
def k0_cond7 (arg18_r0 : BitVec 32) : BitVec 1 :=
  let c0_i32_145_r0 : BitVec 32 := 0#32
  let v148_r0 : BitVec 32 := Scalar.addi arg18_r0 c0_i32_145_r0
  let c3_i32_218_r0 : BitVec 32 := 3#32
  let v252_r0 : BitVec 1 := Scalar.cmpi .eq v148_r0 c3_i32_218_r0
  let v253_r0 : BitVec 32 := Scalar.extui v252_r0
  let c0_i32_219_r0 : BitVec 32 := 0#32
  let v254_r0 : BitVec 1 := Scalar.cmpi .ne v253_r0 c0_i32_219_r0
  v254_r0

def k0_off22 (arg17_r0 : BitVec 32) : Fin 3 → Nat :=
  let c0_i32_144_r0 : BitVec 32 := 0#32
  let v147_r0 : BitVec 32 := Scalar.addi arg17_r0 c0_i32_144_r0
  let v328_r0 : Index := Scalar.indexCast v147_r0
  let c0_261_r0 : Index := 0#32
  let c0_262_r0 : Index := 0#32
  ![v328_r0.toNat, 0, 0]

def k0_chk7 (k0_t2 : Fin k0_t2_loop.trips) (arg14_r0 : BitVec 32) (arg17_r0 : BitVec 32) (arg18_r0 : BitVec 32) : Prop :=
  (∀ (k0_h4 : k0_cond4 k0_t2 arg17_r0 arg18_r0 = 1#1), ∀ a, (k0_off15 arg14_r0) a + S1.size a ≤ S4.size a) ∧
  (∀ (k0_h4 : k0_cond4 k0_t2 arg17_r0 arg18_r0 = 1#1), ∀ a, (k0_off16 arg14_r0) a + S1x1x512x2048.size a ≤ S4x1x512x2048.size a) ∧
  (∀ (k0_h4 : k0_cond4 k0_t2 arg17_r0 arg18_r0 = 1#1), ∀ a, (k0_off17 arg17_r0 arg18_r0) a + S1x512x2048.size a ≤ S8x2048x2048.size a) ∧
  (∀ a, (k0_off20 arg17_r0 arg18_r0) a + S1x512x1.size a ≤ S8x2048x65.size a) ∧
  (∀ (k0_h7 : k0_cond7 arg18_r0 = 1#1), ∀ a, (k0_off21 arg17_r0) a + S1x2048x1.size a ≤ S8x2048x65.size a) ∧
  (∀ (k0_h7 : k0_cond7 arg18_r0 = 1#1), ∀ a, (k0_off22 arg17_r0) a + S1x1x128.size a ≤ S8x1x128.size a)
theorem k0_off15_inb : ∀ (k0_t2 : Fin k0_t2_loop.trips) (arg14_r0 : BitVec 32) (arg17_r0 : BitVec 32) (arg18_r0 : BitVec 32) (k0_hw7 : k0_chk7 k0_t2 arg14_r0 arg17_r0 arg18_r0), ∀ (k0_h4 : k0_cond4 k0_t2 arg17_r0 arg18_r0 = 1#1), ∀ a, (k0_off15 arg14_r0) a + S1.size a ≤ S4.size a := fun k0_t2 arg14_r0 arg17_r0 arg18_r0 k0_hw7 k0_h4 => k0_hw7.1 k0_h4
theorem k0_off16_inb : ∀ (k0_t2 : Fin k0_t2_loop.trips) (arg14_r0 : BitVec 32) (arg17_r0 : BitVec 32) (arg18_r0 : BitVec 32) (k0_hw7 : k0_chk7 k0_t2 arg14_r0 arg17_r0 arg18_r0), ∀ (k0_h4 : k0_cond4 k0_t2 arg17_r0 arg18_r0 = 1#1), ∀ a, (k0_off16 arg14_r0) a + S1x1x512x2048.size a ≤ S4x1x512x2048.size a := fun k0_t2 arg14_r0 arg17_r0 arg18_r0 k0_hw7 k0_h4 => k0_hw7.2.1 k0_h4
theorem k0_off17_inb : ∀ (k0_t2 : Fin k0_t2_loop.trips) (arg14_r0 : BitVec 32) (arg17_r0 : BitVec 32) (arg18_r0 : BitVec 32) (k0_hw7 : k0_chk7 k0_t2 arg14_r0 arg17_r0 arg18_r0), ∀ (k0_h4 : k0_cond4 k0_t2 arg17_r0 arg18_r0 = 1#1), ∀ a, (k0_off17 arg17_r0 arg18_r0) a + S1x512x2048.size a ≤ S8x2048x2048.size a := fun k0_t2 arg14_r0 arg17_r0 arg18_r0 k0_hw7 k0_h4 => k0_hw7.2.2.1 k0_h4
theorem k0_off20_inb : ∀ (k0_t2 : Fin k0_t2_loop.trips) (arg14_r0 : BitVec 32) (arg17_r0 : BitVec 32) (arg18_r0 : BitVec 32) (k0_hw7 : k0_chk7 k0_t2 arg14_r0 arg17_r0 arg18_r0), ∀ a, (k0_off20 arg17_r0 arg18_r0) a + S1x512x1.size a ≤ S8x2048x65.size a := fun k0_t2 arg14_r0 arg17_r0 arg18_r0 k0_hw7 => k0_hw7.2.2.2.1
theorem k0_off21_inb : ∀ (k0_t2 : Fin k0_t2_loop.trips) (arg14_r0 : BitVec 32) (arg17_r0 : BitVec 32) (arg18_r0 : BitVec 32) (k0_hw7 : k0_chk7 k0_t2 arg14_r0 arg17_r0 arg18_r0), ∀ (k0_h7 : k0_cond7 arg18_r0 = 1#1), ∀ a, (k0_off21 arg17_r0) a + S1x2048x1.size a ≤ S8x2048x65.size a := fun k0_t2 arg14_r0 arg17_r0 arg18_r0 k0_hw7 k0_h7 => k0_hw7.2.2.2.2.1 k0_h7
theorem k0_off22_inb : ∀ (k0_t2 : Fin k0_t2_loop.trips) (arg14_r0 : BitVec 32) (arg17_r0 : BitVec 32) (arg18_r0 : BitVec 32) (k0_hw7 : k0_chk7 k0_t2 arg14_r0 arg17_r0 arg18_r0), ∀ (k0_h7 : k0_cond7 arg18_r0 = 1#1), ∀ a, (k0_off22 arg17_r0) a + S1x1x128.size a ≤ S8x1x128.size a := fun k0_t2 arg14_r0 arg17_r0 arg18_r0 k0_hw7 k0_h7 => k0_hw7.2.2.2.2.2 k0_h7

abbrev stage0_0 : Fin 1 → Memref sig .tc .vmem S8x2048x65 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S8x2048x65 : Shape := ⟨3, ![8, 2048, 65]⟩
abbrev S8x2048x2048 : Shape := ⟨3, ![8, 2048, 2048]⟩
abbrev S64x32 : Shape := ⟨2, ![64, 32]⟩
abbrev S32 : Shape := ⟨1, ![32]⟩
abbrev S64x512 : Shape := ⟨2, ![64, 512]⟩
abbrev S512 : Shape := ⟨1, ![512]⟩
abbrev S512x128 : Shape := ⟨2, ![512, 128]⟩
abbrev S128 : Shape := ⟨1, ![128]⟩
abbrev S8x2048x1 : Shape := ⟨3, ![8, 2048, 1]⟩
abbrev S8x2048 : Shape := ⟨2, ![8, 2048]⟩
abbrev S_ : Shape := ⟨0, ![]⟩
abbrev S8x2048x64 : Shape := ⟨3, ![8, 2048, 64]⟩
abbrev S8x2048x32 : Shape := ⟨3, ![8, 2048, 32]⟩
abbrev S1x1x32 : Shape := ⟨3, ![1, 1, 32]⟩
abbrev S8x32 : Shape := ⟨2, ![8, 32]⟩
abbrev S8x1 : Shape := ⟨2, ![8, 1]⟩
abbrev S8x64 : Shape := ⟨2, ![8, 64]⟩
abbrev S8x512 : Shape := ⟨2, ![8, 512]⟩
abbrev S1x512 : Shape := ⟨2, ![1, 512]⟩
abbrev S8x128 : Shape := ⟨2, ![8, 128]⟩
abbrev S1x128 : Shape := ⟨2, ![1, 128]⟩

abbrev nBuf : Space → Nat
  | .hbm => 52
  | .vmem => 0
  | .smem => 0
  | _ => 0

abbrev bufTy : (tb : Table) → Fin (tcTables nBuf tb) → BufTy
  | .hbm, ⟨0, _⟩ => ⟨S8x2048x65, .f32⟩
  | .hbm, ⟨1, _⟩ => ⟨S8x2048x2048, .f32⟩
  | .hbm, ⟨2, _⟩ => ⟨S64x32, .f32⟩
  | .hbm, ⟨3, _⟩ => ⟨S32, .f32⟩
  | .hbm, ⟨4, _⟩ => ⟨S64x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S8x2048x1, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .i1⟩
  | .hbm, ⟨13, _⟩ => ⟨S8x2048x64, .f32⟩
  | .hbm, ⟨14, _⟩ => ⟨S8x2048x32, .f32⟩
  | .hbm, ⟨15, _⟩ => ⟨S8x2048x32, .f32⟩
  | .hbm, ⟨16, _⟩ => ⟨S1x1x32, .f32⟩
  | .hbm, ⟨17, _⟩ => ⟨S8x2048x32, .f32⟩
  | .hbm, ⟨18, _⟩ => ⟨S8x2048x32, .f32⟩
  | .hbm, ⟨19, _⟩ => ⟨S8x2048x1, .i1⟩
  | .hbm, ⟨20, _⟩ => ⟨S8x2048x1, .f32⟩
  | .hbm, ⟨21, _⟩ => ⟨S8x2048x32, .f32⟩
  | .hbm, ⟨22, _⟩ => ⟨S8x2048x32, .f32⟩
  | .hbm, ⟨23, _⟩ => ⟨S_, .f32⟩
  | .hbm, ⟨24, _⟩ => ⟨S8x32, .f32⟩
  | .hbm, ⟨25, _⟩ => ⟨S_, .f32⟩
  | .hbm, ⟨26, _⟩ => ⟨S8x1, .f32⟩
  | .hbm, ⟨27, _⟩ => ⟨S_, .f32⟩
  | .hbm, ⟨28, _⟩ => ⟨S8x1, .f32⟩
  | .hbm, ⟨29, _⟩ => ⟨S8x1, .f32⟩
  | .hbm, ⟨30, _⟩ => ⟨S8x32, .f32⟩
  | .hbm, ⟨31, _⟩ => ⟨S8x32, .f32⟩
  | .hbm, ⟨32, _⟩ => ⟨S8x2048x1, .i1⟩
  | .hbm, ⟨33, _⟩ => ⟨S_, .f32⟩
  | .hbm, ⟨34, _⟩ => ⟨S_, .f32⟩
  | .hbm, ⟨35, _⟩ => ⟨S8x2048x32, .i1⟩
  | .hbm, ⟨36, _⟩ => ⟨S8x2048x32, .f32⟩
  | .hbm, ⟨37, _⟩ => ⟨S8x2048x32, .f32⟩
  | .hbm, ⟨38, _⟩ => ⟨S_, .f32⟩
  | .hbm, ⟨39, _⟩ => ⟨S8x32, .f32⟩
  | .hbm, ⟨40, _⟩ => ⟨S8x64, .f32⟩
  | .hbm, ⟨41, _⟩ => ⟨S8x512, .f32⟩
  | .hbm, ⟨42, _⟩ => ⟨S1x512, .f32⟩
  | .hbm, ⟨43, _⟩ => ⟨S8x512, .f32⟩
  | .hbm, ⟨44, _⟩ => ⟨S8x512, .f32⟩
  | .hbm, ⟨45, _⟩ => ⟨S_, .f32⟩
  | .hbm, ⟨46, _⟩ => ⟨S8x512, .f32⟩
  | .hbm, ⟨47, _⟩ => ⟨S8x512, .f32⟩
  | .hbm, ⟨48, _⟩ => ⟨S8x128, .f32⟩
  | .hbm, ⟨49, _⟩ => ⟨S1x128, .f32⟩
  | .hbm, ⟨50, _⟩ => ⟨S8x128, .f32⟩
  | .hbm, ⟨51, _⟩ => ⟨S8x128, .f32⟩
  | _, _ => ⟨S8x2048x65, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call1_cst : Ref sig .tc := ⟨.hbm, 45, rfl⟩
abbrev main_call1_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Proof.Names.lean ====
/-
  The names the certificate's run is stated in: the thirty-two row blocks of the adjacency array, the four slots of the
  pipeline's buffer, the four transfer semaphores, and the loop's six carried words at each of its thirty-two trips,
  with the checks, conditions and offsets the kernel computes from those words.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Gcn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Blocks, slots, semaphores -/

/-- The adjacency array, whole. -/
abbrev aM : Memref sig .tc .hbm S8x2048x2048 .f32 := Memref.whole main_arg1
/-- The pipeline's buffer, whole. -/
abbrev bufM : Memref sig .tc .vmem S4x1x512x2048 .f32 := Memref.whole cc0_scoped0

/-- Block `i` starts at graph `i / 4`, row `512 · (i % 4)`. -/
abbrev blkOff (i : Fin 32) : Fin 3 → Nat := ![i.val / 4, 512 * (i.val % 4), 0]
theorem blkOff_inb (i : Fin 32) : ∀ a, blkOff i a + S1x512x2048.size a ≤ S8x2048x2048.size a := by
  have := i.isLt; intro a; fin_cases a
  · show i.val / 4 + 1 ≤ 8; omega
  · show 512 * (i.val % 4) + 512 ≤ 2048; omega
  · show 0 + 2048 ≤ 2048; omega
/-- Slot `s` starts at index `s` of the buffer's leading axis. -/
abbrev slotOff (s : Fin 4) : Fin 4 → Nat := ![s.val, 0, 0, 0]
theorem slotOff_inb (s : Fin 4) : ∀ a, slotOff s a + S1x1x512x2048.size a ≤ S4x1x512x2048.size a := by
  have := s.isLt; intro a; fin_cases a
  · show s.val + 1 ≤ 4; omega
  · show 0 + 1 ≤ 1; omega
  · show 0 + 512 ≤ 512; omega
  · show 0 + 2048 ≤ 2048; omega
abbrev semOff (s : Fin 4) : Fin 1 → Nat := ![s.val]
theorem semOff_inb (s : Fin 4) : ∀ a, semOff s a + S1.size a ≤ S4.size a := by
  have := s.isLt; intro a; fin_cases a; show s.val + 1 ≤ 4; omega

/-- Block `i` of the adjacency array, as the kernel slices it. -/
def blk (i : Fin 32) : Memref sig .tc .hbm S1x512x2048 .f32 :=
  aM.slice (Rect.unit (s := S8x2048x2048) (blkOff i) S1x512x2048.size (blkOff_inb i)) (fun _ => rfl)
/-- Slot `s` of the pipeline's buffer, as the kernel slices and squeezes it. -/
def slot (s : Fin 4) : Memref sig .tc .vmem S1x512x2048 .f32 :=
  (bufM.slice (Rect.unit (s := S4x1x512x2048) (slotOff s) S1x1x512x2048.size (slotOff_inb s)) (fun _ => rfl)).squeeze
    S1x512x2048 squeezes_S1x1x512x2048_S1x512x2048
/-- Slot `s`'s transfer semaphore. -/
def csem (s : Fin 4) : DmaSems sig S_ :=
  (cc0_scoped1.slice (Rect.unit (s := S4) (semOff s) S1.size (semOff_inb s))).squeeze S_ squeezes_S1_S_

theorem csem_congr {off : Fin 1 → Nat} {s : Fin 4} (e : off = semOff s) (hh) :
    (cc0_scoped1.slice (Rect.unit (s := S4) off S1.size hh)).squeeze S_ squeezes_S1_S_ = csem s :=
  congrArg (fun A : DmaSems sig S1 => A.squeeze S_ squeezes_S1_S_) (SemArray.slice_unit_congr _ e _ _)
theorem slot_congr {off : Fin 4 → Nat} {s : Fin 4} (e : off = slotOff s) (hh hs) :
    (bufM.slice (Rect.unit (s := S4x1x512x2048) off S1x1x512x2048.size hh) hs).squeeze S1x512x2048
      squeezes_S1x1x512x2048_S1x512x2048 = slot s :=
  congrArg (fun M : Memref sig .tc .vmem S1x1x512x2048 .f32 => M.squeeze S1x512x2048 squeezes_S1x1x512x2048_S1x512x2048)
    (Memref.slice_unit_congr _ e _ _ _ _)
theorem blk_congr {off : Fin 3 → Nat} {i : Fin 32} (e : off = blkOff i) (hh hs) :
    aM.slice (Rect.unit (s := S8x2048x2048) off S1x512x2048.size hh) hs = blk i :=
  Memref.slice_unit_congr _ e _ _ _ (fun _ => rfl)

/-! ## The slot of a block -/

/-- Block `i`'s slot. -/
abbrev sl (i : ℕ) : Fin 4 := ⟨i % 4, Nat.mod_lt _ (by decide)⟩

/-! ## The loop's carried words -/

theorem trips2 : k0_t2_loop.trips = 32 := by decide
theorem trips1 : k0_t1_loop.trips = 8 := by decide

abbrev wk (k : Fin k0_t2_loop.trips) : BitVec 32 := BitVec.ofNat 32 k.val
abbrev wb (k : Fin k0_t2_loop.trips) : BitVec 32 := BitVec.ofNat 32 (k.val / 4 % 8)
abbrev wj (k : Fin k0_t2_loop.trips) : BitVec 32 := BitVec.ofNat 32 (k.val % 4)

theorem chk9 : ∀ k : Fin k0_t2_loop.trips, k0_chk9 (wb k) := by decide +kernel
theorem chk8 : ∀ k : Fin k0_t2_loop.trips, k0_chk8 (wk k) := by decide +kernel
theorem chk7 : ∀ k : Fin k0_t2_loop.trips, k0_chk7 k (wk k) (wb k) (wj k) := by decide +kernel
theorem cond4 : ∀ k : Fin k0_t2_loop.trips, k0_cond4 k (wb k) (wj k) = 1#1 := by decide +kernel

theorem off15 : ∀ k : Fin k0_t2_loop.trips, k0_off15 (wk k) = semOff (sl k.val) := by decide +kernel
theorem off16 : ∀ k : Fin k0_t2_loop.trips, k0_off16 (wk k) = slotOff (sl k.val) := by decide +kernel
theorem off18 : ∀ k : Fin k0_t2_loop.trips, k0_off18 (wk k) = slotOff (sl k.val) := by decide +kernel
theorem off17 : ∀ k : Fin k0_t2_loop.trips, k0_off17 (wb k) (wj k) = ![k.val / 4, 512 * (k.val % 4), 0] := by decide +kernel
theorem off19 : ∀ k : Fin k0_t2_loop.trips, k0_off19 (wb k) = ![k.val / 4, 0, 0] := by decide +kernel
theorem off20 : ∀ k : Fin k0_t2_loop.trips, k0_off20 (wb k) (wj k) = ![k.val / 4, 512 * (k.val % 4), 64] := by decide +kernel
theorem off21 : ∀ k : Fin k0_t2_loop.trips, k0_off21 (wb k) = ![k.val / 4, 0, 64] := by decide +kernel
theorem off22 : ∀ k : Fin k0_t2_loop.trips, k0_off22 (wb k) = ![k.val / 4, 0, 0] := by decide +kernel

/-! ## The fetching loops' words: block `n` is fetched at words `n / 4`, `n % 4`, `n` -/

abbrev bw (n : ℕ) : BitVec 32 := BitVec.ofNat 32 (n / 4)
abbrev jw (n : ℕ) : BitVec 32 := BitVec.ofNat 32 (n % 4)
abbrev iw (n : ℕ) : BitVec 32 := BitVec.ofNat 32 n

theorem off8 : ∀ n : Fin 32, k0_off8 (bw n) (jw n) = blkOff n := by decide +kernel
theorem off11 : ∀ n : Fin 32, k0_off11 (bw n) (jw n) = blkOff n := by decide +kernel
theorem off14 : ∀ n : Fin 32, k0_off14 (bw n) (jw n) = blkOff n := by decide +kernel
theorem off6 : ∀ n : Fin 32, k0_off6 (iw n) = semOff (sl n) := by decide +kernel
theorem off9 : ∀ n : Fin 32, k0_off9 (iw n) = semOff (sl n) := by decide +kernel
theorem off12 : ∀ n : Fin 32, k0_off12 (iw n) = semOff (sl n) := by decide +kernel
theorem off7 : ∀ n : Fin 32, k0_off7 (iw n) = slotOff (sl n) := by decide +kernel
theorem off10 : ∀ n : Fin 32, k0_off10 (iw n) = slotOff (sl n) := by decide +kernel
theorem off13 : ∀ n : Fin 32, k0_off13 (iw n) = slotOff (sl n) := by decide +kernel
theorem off3 : k0_off3 = semOff 0 := by decide +kernel
theorem off4 : k0_off4 = slotOff 0 := by decide +kernel
theorem off5 : k0_off5 = blkOff 0 := by decide +kernel

theorem chk1 (lb lj : BitVec 32) (n : Fin 32) : k0_chk1 lb lj (bw n) (jw n) (iw n) :=
  ⟨fun _ => by rw [off6]; exact semOff_inb _, fun _ => by rw [off7]; exact slotOff_inb _⟩
theorem chk2 (lb lj : BitVec 32) (n : Fin 32) : k0_chk2 lb lj (bw n) (jw n) :=
  fun _ => by rw [off8]; exact blkOff_inb _
theorem chk3 (lb lj : BitVec 32) (n : Fin 32) : k0_chk3 lb lj (bw n) (jw n) (iw n) :=
  ⟨fun _ => by rw [off9]; exact semOff_inb _, fun _ => by rw [off10]; exact slotOff_inb _⟩
theorem chk4 (lb lj : BitVec 32) (n : Fin 32) : k0_chk4 lb lj (bw n) (jw n) :=
  fun _ => by rw [off11]; exact blkOff_inb _
theorem chk5 (lb lj : BitVec 32) (n : Fin 32) : k0_chk5 lb lj (bw n) (jw n) (iw n) :=
  ⟨fun _ => by rw [off12]; exact semOff_inb _, fun _ => by rw [off13]; exact slotOff_inb _⟩
theorem chk6 (lb lj : BitVec 32) (n : Fin 32) : k0_chk6 lb lj (bw n) (jw n) :=
  fun _ => by rw [off14]; exact blkOff_inb _

/-- Every block but the first differs from the one fetched before it, so each is fetched. -/
theorem cond1 : ∀ n : Fin 31, k0_cond1 (bw n) (jw n) (bw (n + 1)) (jw (n + 1)) = 1#1 := by decide +kernel
theorem cond2 : ∀ n : Fin 31, k0_cond2 (bw n) (jw n) (bw (n + 1)) (jw (n + 1)) = 1#1 := by decide +kernel
theorem cond3 : ∀ n : Fin 31, k0_cond3 (bw n) (jw n) (bw (n + 1)) (jw (n + 1)) = 1#1 := by decide +kernel

/-- The words before trip `k`: the next block to fetch, the trip's own number, the graph and row block of the last
    block fetched, the graph and row block of the trip. -/
def carry (k : ℕ) : BitVec 32 × BitVec 32 × BitVec 32 × BitVec 32 × BitVec 32 × BitVec 32 :=
  (iw (min (k + 2) 31 + 1), iw k, bw (min (k + 2) 31), jw (min (k + 2) 31), BitVec.ofNat 32 (k / 4 % 8), BitVec.ofNat 32 (k % 4))

/-- A fetching loop's test: the block to fetch is below the bound, and its graph and row block are in range. -/
abbrev test (v b j i : BitVec 32) : BitVec 1 :=
  Scalar.andi (Scalar.andi 1#1 (Scalar.cmpi .ult i v)) (Scalar.andi (Scalar.andi 1#1 (Scalar.cmpi .slt b 8#32)) (Scalar.cmpi .slt j 4#32))
theorem test_in : ∀ n : Fin 32, test (iw (n + 1)) (bw n) (jw n) (iw n) = 1#1 := by decide +kernel
theorem test_out : ∀ n : Fin 33, test (iw n) (bw n) (jw n) (iw n) ≠ 1#1 := by decide +kernel
theorem test_end : ∀ v : Fin 64, test (iw v) (bw 32) (jw 32) (iw 32) ≠ 1#1 := by decide +kernel

abbrev nextJ (j : BitVec 32) : BitVec 32 := Scalar.select (Scalar.cmpi .eq (Scalar.select 1#1 (Scalar.addi j 1#32) j) 4#32) 0#32 (Scalar.select 1#1 (Scalar.addi j 1#32) j)
abbrev nextB (b j : BitVec 32) : BitVec 32 :=
  Scalar.select 0#1 0#32 (Scalar.select (Scalar.cmpi .eq (Scalar.select 1#1 (Scalar.addi j 1#32) j) 4#32) (Scalar.addi b 1#32) b)
abbrev nextI (lb lj b j i : BitVec 32) : BitVec 32 :=
  Scalar.addi i (Scalar.extui (Scalar.ori (Scalar.cmpi .ne (Scalar.addi lb 0#32) (Scalar.addi b 0#32)) (Scalar.cmpi .ne (Scalar.addi lj 0#32) (Scalar.addi j 0#32))))
theorem nextJ_eq : ∀ n : Fin 32, nextJ (jw n) = jw (n + 1) := by decide +kernel
theorem nextB_eq : ∀ n : Fin 32, nextB (bw n) (jw n) = bw (n + 1) := by decide +kernel
theorem nextI_eq : ∀ n : Fin 31, nextI (bw n) (jw n) (bw (n + 1)) (jw (n + 1)) (iw (n + 1)) = iw (n + 2) := by decide +kernel

/-! ## The kernel's slices are those names -/

@[sl_canon] theorem sem3 (hh) : (cc0_scoped1.slice (Rect.unit (s := S4) k0_off3 S1.size hh)).squeeze S_ squeezes_S1_S_ = csem 0 := csem_congr off3 _
@[sl_canon] theorem slot4 (hh hs) : (bufM.slice (Rect.unit (s := S4x1x512x2048) k0_off4 S1x1x512x2048.size hh) hs).squeeze S1x512x2048 squeezes_S1x1x512x2048_S1x512x2048 = slot 0 := slot_congr off4 _ _
@[sl_canon] theorem blk5 (hh hs) : aM.slice (Rect.unit (s := S8x2048x2048) k0_off5 S1x512x2048.size hh) hs = blk 0 := blk_congr off5 _ _
@[sl_canon] theorem sem6 (n : ℕ) (hn : n < 32) (hh) : (cc0_scoped1.slice (Rect.unit (s := S4) (k0_off6 (iw n)) S1.size hh)).squeeze S_ squeezes_S1_S_ = csem (sl n) := csem_congr (off6 ⟨n, hn⟩) _
@[sl_canon] theorem slot7 (n : ℕ) (hn : n < 32) (hh hs) : (bufM.slice (Rect.unit (s := S4x1x512x2048) (k0_off7 (iw n)) S1x1x512x2048.size hh) hs).squeeze S1x512x2048 squeezes_S1x1x512x2048_S1x512x2048 = slot (sl n) := slot_congr (off7 ⟨n, hn⟩) _ _
@[sl_canon] theorem blk8 (n : ℕ) (hn : n < 32) (hh hs) : aM.slice (Rect.unit (s := S8x2048x2048) (k0_off8 (bw n) (jw n)) S1x512x2048.size hh) hs = blk ⟨n, hn⟩ := blk_congr (off8 ⟨n, hn⟩) _ _
@[sl_canon] theorem sem9 (n : ℕ) (hn : n < 32) (hh) : (cc0_scoped1.slice (Rect.unit (s := S4) (k0_off9 (iw n)) S1.size hh)).squeeze S_ squeezes_S1_S_ = csem (sl n) := csem_congr (off9 ⟨n, hn⟩) _
@[sl_canon] theorem slot10 (n : ℕ) (hn : n < 32) (hh hs) : (bufM.slice (Rect.unit (s := S4x1x512x2048) (k0_off10 (iw n)) S1x1x512x2048.size hh) hs).squeeze S1x512x2048 squeezes_S1x1x512x2048_S1x512x2048 = slot (sl n) := slot_congr (off10 ⟨n, hn⟩) _ _
@[sl_canon] theorem blk11 (n : ℕ) (hn : n < 32) (hh hs) : aM.slice (Rect.unit (s := S8x2048x2048) (k0_off11 (bw n) (jw n)) S1x512x2048.size hh) hs = blk ⟨n, hn⟩ := blk_congr (off11 ⟨n, hn⟩) _ _
@[sl_canon] theorem sem12 (n : ℕ) (hn : n < 32) (hh) : (cc0_scoped1.slice (Rect.unit (s := S4) (k0_off12 (iw n)) S1.size hh)).squeeze S_ squeezes_S1_S_ = csem (sl n) := csem_congr (off12 ⟨n, hn⟩) _
@[sl_canon] theorem slot13 (n : ℕ) (hn : n < 32) (hh hs) : (bufM.slice (Rect.unit (s := S4x1x512x2048) (k0_off13 (iw n)) S1x1x512x2048.size hh) hs).squeeze S1x512x2048 squeezes_S1x1x512x2048_S1x512x2048 = slot (sl n) := slot_congr (off13 ⟨n, hn⟩) _ _
@[sl_canon] theorem blk14 (n : ℕ) (hn : n < 32) (hh hs) : aM.slice (Rect.unit (s := S8x2048x2048) (k0_off14 (bw n) (jw n)) S1x512x2048.size hh) hs = blk ⟨n, hn⟩ := blk_congr (off14 ⟨n, hn⟩) _ _

/-- Trip `k`'s block. -/
abbrev bk (k : Fin k0_t2_loop.trips) : Fin 32 := ⟨k.val, Nat.lt_of_lt_of_eq k.isLt trips2⟩
@[sl_canon] theorem sem15 (k : Fin k0_t2_loop.trips) (hh) : (cc0_scoped1.slice (Rect.unit (s := S4) (k0_off15 (wk k)) S1.size hh)).squeeze S_ squeezes_S1_S_ = csem (sl k.val) := csem_congr (off15 k) _
@[sl_canon] theorem slot16 (k : Fin k0_t2_loop.trips) (hh hs) : (bufM.slice (Rect.unit (s := S4x1x512x2048) (k0_off16 (wk k)) S1x1x512x2048.size hh) hs).squeeze S1x512x2048 squeezes_S1x1x512x2048_S1x512x2048 = slot (sl k.val) := slot_congr (off16 k) _ _
@[sl_canon] theorem slot18 (k : Fin k0_t2_loop.trips) (hh hs) : (bufM.slice (Rect.unit (s := S4x1x512x2048) (k0_off18 (wk k)) S1x1x512x2048.size hh) hs).squeeze S1x512x2048 squeezes_S1x1x512x2048_S1x512x2048 = slot (sl k.val) := slot_congr (off18 k) _ _
@[sl_canon] theorem blk17 (k : Fin k0_t2_loop.trips) (hh hs) : aM.slice (Rect.unit (s := S8x2048x2048) (k0_off17 (wb k) (wj k)) S1x512x2048.size hh) hs = blk (bk k) := blk_congr (off17 k) _ _

instance (s : Fin 4) : ClosedOff (slotOff s) := ⟨slotOff s, rfl⟩
instance (i : Fin 32) : ClosedOff (blkOff i) := ⟨blkOff i, rfl⟩

variable {F : FTy → Type} [FloatOps F]

/-! ## The resource algebra: the launch's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.nat

section Pieces
variable (c : Dev nD) (XA : Buf (Elt F) (aM.view.loc (c : Thread nD τ)))

/-- Slot `s`'s transfer semaphore, at zero. -/
abbrev cellP (s : Fin 4) : sProp 𝕄 := semVal ((c : Thread nD τ), SemLoc.dma (csem s).sem) 0
/-- Slot `s` held, at contents `f`. -/
abbrev slotP (s : Fin 4) (f : Buf (Elt F) ((slot s).view.loc (c : Thread nD τ))) : sProp 𝕄 :=
  (slot s).view.loc (c : Thread nD τ) ↦[(slot s).view.set]{fullShare} f
/-- Block `i` held on its elements, at the adjacency array's contents. -/
abbrev homeP (i : Fin 32) : sProp 𝕄 := (blk i).view.loc (c : Thread nD τ) ↦[(blk i).view.set]{fullShare} XA
/-- What block `i`'s transfer leaves in slot `s`: the block, written whole over `f`. -/
abbrev landed (s : Fin 4) (i : Fin 32) (f : Buf (Elt F) ((slot s).view.loc (c : Thread nD τ))) : Buf (Elt F) ((slot s).view.loc (c : Thread nD τ)) :=
  (slot s).view.writes (Elt F) f [⟨Rect.whole S1x512x2048, ReadAs.same.apply ((blk i).view.read (Elt F) XA)⟩]
/-- Units one block's transfer moves on its semaphore. -/
abbrev NN : ℕ := 512 * 2048 / 8
/-- Block `i` in flight to slot `s`, issued over contents `f`. -/
abbrev flightP (s : Fin 4) (i : Fin 32) (f : Buf (Elt F) ((slot s).view.loc (c : Thread nD τ))) : sProp 𝕄 :=
  Transfers.Flight countersEmb (c : Thread nD τ) (SemLoc.dma (csem s).sem) () NN iprop(slotP c s (landed c XA s i f) ∗ homeP c XA i)

end Pieces

end Cert.Proof.Gcn

end
-- ==== Proof.Fetch.lean ====
/-
  The fetching loops of the pipelined call: each starts the transfer of one block into its slot and returns the words
  of the block after it.
-/
module

public import proofs.«01_k».proof.Proof.Names

@[expose] public section

noncomputable section

namespace Cert.Proof.Gcn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XA : Buf (Elt F) (aM.view.loc (c : Thread nD τ)))

abbrev W5 : Type := BitVec 32 × BitVec 32 × BitVec 32 × BitVec 32 × BitVec 32

/-- The first fetching loop's bound, as the kernel computes it: block 2. -/
abbrev bound1 : BitVec 32 :=
  Scalar.select (Scalar.cmpi .ult (Scalar.addi 0#32 4#32) (Scalar.addi (Scalar.addi 0#32 1#32) 1#32)) (Scalar.addi 0#32 4#32)
    (Scalar.addi (Scalar.addi 0#32 1#32) 1#32)

/-- The first fetch before the main loop whose test fails: it returns its words. -/
theorem while1_exit (lb lj b j i : BitVec 32) (ht : test bound1 b j i ≠ 1#1) (n : ℕ) (K : W5 → sProp 𝕄) :
    K (lb, lj, b, j, i) ⊢ wp frame (wpE (defs₀ (F := F)) 𝒱₀ (c : Thread nD τ) (some n)) Set.univ
      (defs₀ (F := F) .tc 1 ⟨cc0_scoped1, bufM, Memref.isWhole_whole _, aM, Memref.isWhole_whole _, lb, lj, b, j, i⟩) K := by
  show _ ⊢ wp frame _ _ (cc0_while1 cc0_scoped1 bufM (Memref.isWhole_whole _) aM (Memref.isWhole_whole _) lb lj b j i) K
  rw [cc0_while1_eq_skeleton]; unfold cc0_while1_skel
  dsimp only
  rw [if_neg ht]
  simp only [Prog.pure_eq_ret]
  rw [wp_ret]
  iintro H
  imodintro
  iexact H

/-- The first fetch before the main loop of block `n + 1`: its transfer is started into its slot, and the words are those of the block
    after it. -/
theorem while1_step (n : ℕ) (h0 : n = 0) (hn : n + 1 < 32) (f : Buf (Elt F) ((slot (sl (n + 1))).view.loc (c : Thread nD τ))) (K : W5 → sProp 𝕄) :
    iprop((∃ W, owes (c : Thread nD τ) 0 W) ∗ cellP c (sl (n + 1)) ∗ slotP c (sl (n + 1)) f ∗ homeP c XA ⟨n + 1, hn⟩
      ∗ ((∃ W, owes (c : Thread nD τ) 0 W) -∗ flightP c XA (sl (n + 1)) ⟨n + 1, hn⟩ f -∗ K (bw (n + 1), jw (n + 1), bw (n + 2), jw (n + 2), iw (n + 2))))
    ⊢ wp frame (wpE (defs₀ (F := F)) 𝒱₀ (c : Thread nD τ) (some 1)) Set.univ
      (defs₀ (F := F) .tc 1 ⟨cc0_scoped1, bufM, Memref.isWhole_whole _, aM, Memref.isWhole_whole _, bw n, jw n, bw (n + 1), jw (n + 1), iw (n + 1)⟩) K := by
  have h5 := chk1 (bw n) (jw n) ⟨n + 1, hn⟩
  have h6 := chk2 (bw n) (jw n) ⟨n + 1, hn⟩
  have hc : k0_cond1 (bw n) (jw n) (bw (n + 1)) (jw (n + 1)) = 1#1 := cond1 ⟨n, by omega⟩
  show _ ⊢ wp frame _ _ (cc0_while1 cc0_scoped1 bufM (Memref.isWhole_whole _) aM (Memref.isWhole_whole _) _ _ _ _ _) K
  rw [cc0_while1_eq_skeleton]; unfold cc0_while1_skel
  have ht : test bound1 (bw (n + 1)) (jw (n + 1)) (iw (n + 1)) = 1#1 := by subst h0; decide
  iintro ⟨⟨%W, HW⟩, HC, HS, HH, HK⟩
  sl_exec
  rw [show while1_step.sl.v162_r0 n = bw (n + 2) from nextB_eq ⟨n + 1, hn⟩,
    show while1_step.sl.v159_r0 n = jw (n + 2) from nextJ_eq ⟨n + 1, hn⟩,
    show while1_step.sl.v155_r0 n = iw (n + 2) from nextI_eq ⟨n, by omega⟩]
  iapply (wp_call 𝒱₀ (c : Thread nD τ) (some 1) Set.univ 0 (fun u hu => by cases hu; exact Nat.lt_succ_self 0))
  iapply (while1_exit c _ _ _ _ _ (by subst h0; decide) 0)
  rw [wp_ret]
  imodintro
  iapply HK $$ [HW] [HC]
  · iexists W; iexact HW
  · iexact HC

/-- The second fetch before the main loop whose test fails: it returns its words. -/
theorem while2_exit (v lb lj b j i : BitVec 32) (ht : test v b j i ≠ 1#1) (n : ℕ) (K : W5 → sProp 𝕄) :
    K (lb, lj, b, j, i) ⊢ wp frame (wpE (defs₀ (F := F)) 𝒱₀ (c : Thread nD τ) (some n)) Set.univ
      (defs₀ (F := F) .tc 2 ⟨v, cc0_scoped1, bufM, Memref.isWhole_whole _, aM, Memref.isWhole_whole _, lb, lj, b, j, i⟩) K := by
  show _ ⊢ wp frame _ _ (cc0_while2 v cc0_scoped1 bufM (Memref.isWhole_whole _) aM (Memref.isWhole_whole _) lb lj b j i) K
  rw [cc0_while2_eq_skeleton]; unfold cc0_while2_skel
  dsimp only
  rw [if_neg ht]
  simp only [Prog.pure_eq_ret]
  rw [wp_ret]
  iintro H
  imodintro
  iexact H

/-- The second fetch before the main loop of block `n + 1`: its transfer is started into its slot, and the words are those of the block
    after it. -/
theorem while2_step (n : ℕ) (hn : n + 1 < 32) (f : Buf (Elt F) ((slot (sl (n + 1))).view.loc (c : Thread nD τ))) (K : W5 → sProp 𝕄) :
    iprop((∃ W, owes (c : Thread nD τ) 0 W) ∗ cellP c (sl (n + 1)) ∗ slotP c (sl (n + 1)) f ∗ homeP c XA ⟨n + 1, hn⟩
      ∗ ((∃ W, owes (c : Thread nD τ) 0 W) -∗ flightP c XA (sl (n + 1)) ⟨n + 1, hn⟩ f -∗ K (bw (n + 1), jw (n + 1), bw (n + 2), jw (n + 2), iw (n + 2))))
    ⊢ wp frame (wpE (defs₀ (F := F)) 𝒱₀ (c : Thread nD τ) (some 1)) Set.univ
      (defs₀ (F := F) .tc 2 ⟨iw (n + 2), cc0_scoped1, bufM, Memref.isWhole_whole _, aM, Memref.isWhole_whole _, bw n, jw n, bw (n + 1), jw (n + 1), iw (n + 1)⟩) K := by
  have h5 := chk3 (bw n) (jw n) ⟨n + 1, hn⟩
  have h6 := chk4 (bw n) (jw n) ⟨n + 1, hn⟩
  have hc : k0_cond2 (bw n) (jw n) (bw (n + 1)) (jw (n + 1)) = 1#1 := cond2 ⟨n, by omega⟩
  show _ ⊢ wp frame _ _ (cc0_while2 _ cc0_scoped1 bufM (Memref.isWhole_whole _) aM (Memref.isWhole_whole _) _ _ _ _ _) K
  rw [cc0_while2_eq_skeleton]; unfold cc0_while2_skel
  have ht := test_in ⟨n + 1, hn⟩
  iintro ⟨⟨%W, HW⟩, HC, HS, HH, HK⟩
  sl_exec
  rw [show while2_step.sl.v162_r0 n = bw (n + 2) from nextB_eq ⟨n + 1, hn⟩,
    show while2_step.sl.v159_r0 n = jw (n + 2) from nextJ_eq ⟨n + 1, hn⟩,
    show while2_step.sl.v155_r0 n = iw (n + 2) from nextI_eq ⟨n, by omega⟩]
  iapply (wp_call 𝒱₀ (c : Thread nD τ) (some 1) Set.univ 0 (fun u hu => by cases hu; exact Nat.lt_succ_self 0))
  iapply (while2_exit c (iw (n + 2)) _ _ _ _ _ (test_out ⟨n + 2, by omega⟩) 0)
  rw [wp_ret]
  imodintro
  iapply HK $$ [HW] [HC]
  · iexists W; iexact HW
  · iexact HC

/-- The main loop's fetch whose test fails: it returns its words. -/
theorem while3_exit (k : Fin k0_t2_loop.trips) (v lb lj b j i : BitVec 32) (ht : test v b j i ≠ 1#1) (n : ℕ) (K : W5 → sProp 𝕄) :
    K (lb, lj, b, j, i) ⊢ wp frame (wpE (defs₀ (F := F)) 𝒱₀ (c : Thread nD τ) (some n)) Set.univ
      (defs₀ (F := F) .tc 3 ⟨k, v, cc0_scoped1, bufM, Memref.isWhole_whole _, aM, Memref.isWhole_whole _, lb, lj, b, j, i⟩) K := by
  show _ ⊢ wp frame _ _ (cc0_while3 k v cc0_scoped1 bufM (Memref.isWhole_whole _) aM (Memref.isWhole_whole _) lb lj b j i) K
  rw [cc0_while3_eq_skeleton]; unfold cc0_while3_skel
  dsimp only
  rw [if_neg ht]
  simp only [Prog.pure_eq_ret]
  rw [wp_ret]
  iintro H
  imodintro
  iexact H

/-- The main loop's fetch of block `n + 1`: its transfer is started into its slot, and the words are those of the block
    after it. -/
theorem while3_step (k : Fin k0_t2_loop.trips) (n : ℕ) (hn : n + 1 < 32) (f : Buf (Elt F) ((slot (sl (n + 1))).view.loc (c : Thread nD τ))) (K : W5 → sProp 𝕄) :
    iprop((∃ W, owes (c : Thread nD τ) 0 W) ∗ cellP c (sl (n + 1)) ∗ slotP c (sl (n + 1)) f ∗ homeP c XA ⟨n + 1, hn⟩
      ∗ ((∃ W, owes (c : Thread nD τ) 0 W) -∗ flightP c XA (sl (n + 1)) ⟨n + 1, hn⟩ f -∗ K (bw (n + 1), jw (n + 1), bw (n + 2), jw (n + 2), iw (n + 2))))
    ⊢ wp frame (wpE (defs₀ (F := F)) 𝒱₀ (c : Thread nD τ) (some 1)) Set.univ
      (defs₀ (F := F) .tc 3 ⟨k, iw (n + 2), cc0_scoped1, bufM, Memref.isWhole_whole _, aM, Memref.isWhole_whole _, bw n, jw n, bw (n + 1), jw (n + 1), iw (n + 1)⟩) K := by
  have h5 := chk5 (bw n) (jw n) ⟨n + 1, hn⟩
  have h6 := chk6 (bw n) (jw n) ⟨n + 1, hn⟩
  have hc : k0_cond3 (bw n) (jw n) (bw (n + 1)) (jw (n + 1)) = 1#1 := cond3 ⟨n, by omega⟩
  show _ ⊢ wp frame _ _ (cc0_while3 k _ cc0_scoped1 bufM (Memref.isWhole_whole _) aM (Memref.isWhole_whole _) _ _ _ _ _) K
  rw [cc0_while3_eq_skeleton]; unfold cc0_while3_skel
  have ht := test_in ⟨n + 1, hn⟩
  iintro ⟨⟨%W, HW⟩, HC, HS, HH, HK⟩
  sl_exec
  rw [show while3_step.sl.v301_r0 n = bw (n + 2) from nextB_eq ⟨n + 1, hn⟩,
    show while3_step.sl.v298_r0 n = jw (n + 2) from nextJ_eq ⟨n + 1, hn⟩,
    show while3_step.sl.v294_r0 n = iw (n + 2) from nextI_eq ⟨n, by omega⟩]
  iapply (wp_call 𝒱₀ (c : Thread nD τ) (some 1) Set.univ 0 (fun u hu => by cases hu; exact Nat.lt_succ_self 0))
  iapply (while3_exit c k (iw (n + 2)) _ _ _ _ _ (test_out ⟨n + 2, by omega⟩) 0)
  rw [wp_ret]
  imodintro
  iapply HK $$ [HW] [HC]
  · iexists W; iexact HW
  · iexact HC

end Cert.Proof.Gcn

end
-- ==== Proof.Conv.lean ====
/-
  The first loop: graph by graph, the node features times the first layer's weights, kept in a scratch array.
-/
module

public import proofs.«01_k».proof.Proof.Fetch
public import Idealize.ShloMosaic.Lib.WritesUnit

@[expose] public section

noncomputable section

namespace Cert.Proof.Gcn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## The kernel's buffers -/

abbrev xM : Memref sig .tc .vmem S8x2048x65 .f32 := Memref.whole cc0_stg0_0
abbrev ckM : Memref sig .tc .vmem S64x32 .f32 := Memref.whole cc0_stg1_0
abbrev cbM : Memref sig .tc .vmem S1x32 .f32 := Memref.whole cc0_stg2_0
abbrev dkM : Memref sig .tc .vmem S64x512 .f32 := Memref.whole cc0_stg3_0
abbrev dbM : Memref sig .tc .vmem S1x512 .f32 := Memref.whole cc0_stg4_0
abbrev lkM : Memref sig .tc .vmem S512x128 .f32 := Memref.whole cc0_stg5_0
abbrev lbM : Memref sig .tc .vmem S1x128 .f32 := Memref.whole cc0_stg6_0
abbrev oM : Memref sig .tc .vmem S8x1x128 .f32 := Memref.whole cc0_stg7_0
abbrev hM : Memref sig .tc .vmem S8x2048x32 .f32 := Memref.whole cc0_scratch0
abbrev sM : Memref sig .tc .vmem S512x32 .f32 := Memref.whole cc0_scratch1
abbrev mM : Memref sig .tc .vmem S512x32 .f32 := Memref.whole cc0_scratch2

/-! ## Reading back one stored rectangle -/

section Reads
variable {sp : Space} {s : Shape} {e : EltTy} (v : View sig .tc sp s e) (f : v.ty.Contents (Elt F))

/-- A load at the rectangle a store wrote reads what the store wrote. -/
theorem readAt_stored {off off' size : Fin s.rank → ℕ} (inb : ∀ a, off a + size a ≤ s.size a) (inb' : ∀ a, off' a + size a ≤ s.size a)
    (h : off = off') (w : (Rect.unit off size inb).shape.Idx → Elt F e) :
    v.readAt (Elt F) (Rect.unit off' size inb').toLoadRect (v.writes (Elt F) f [⟨Rect.unit off size inb, w⟩]) = w := by
  subst h
  funext y
  exact View.read_writes_cons_emb v f (Rect.unit off size inb) w [] y

/-- A load at a rectangle lying apart, on one axis, from the one a store wrote reads what was there. -/
theorem readAt_apart {off off' size size' : Fin s.rank → ℕ} (inb : ∀ a, off a + size a ≤ s.size a) (inb' : ∀ a, off' a + size' a ≤ s.size a)
    (w : (Rect.unit off size inb).shape.Idx → Elt F e) (a : Fin s.rank) (h : off' a + size' a ≤ off a ∨ off a + size a ≤ off' a) :
    v.readAt (Elt F) (Rect.unit off' size' inb').toLoadRect (v.writes (Elt F) f [⟨Rect.unit off size inb, w⟩])
      = v.readAt (Elt F) (Rect.unit off' size' inb').toLoadRect f := by
  funext y
  have hy : (y a).val < size' a := (y a).isLt
  refine View.read_writes_cons_unit_of_not_mem v f inb w [] ((Rect.unit off' size' inb').emb y) rfl a ?_
  show off' a + 1 * (y a).val < off a ∨ off a + size a ≤ off' a + 1 * (y a).val
  omega

/-- A load reads the same however its rectangle's offsets are spelt. -/
theorem readAt_off {off off' size : Fin s.rank → ℕ} (h : off = off') (inb : ∀ a, off a + size a ≤ s.size a) (inb' : ∀ a, off' a + size a ≤ s.size a) :
    v.readAt (Elt F) (Rect.unit off size inb).toLoadRect f = v.readAt (Elt F) (Rect.unit off' size inb').toLoadRect f := by
  subst h; rfl

end Reads

/-! ## One graph's rows -/

/-- Graph `b` of an array whose leading axis numbers the graphs. -/
abbrev gOff (b : Fin 8) : Fin 3 → ℕ := ![b.val, 0, 0]
theorem gOff_x (b : Fin 8) : ∀ a, gOff b a + S1x2048x64.size a ≤ S8x2048x65.size a := by
  have := b.isLt; intro a; fin_cases a
  · show b.val + 1 ≤ 8; omega
  · show 0 + 2048 ≤ 2048; omega
  · show 0 + 64 ≤ 65; omega
theorem gOff_h (b : Fin 8) : ∀ a, gOff b a + S1x2048x32.size a ≤ S8x2048x32.size a := by
  have := b.isLt; intro a; fin_cases a
  · show b.val + 1 ≤ 8; omega
  · show 0 + 2048 ≤ 2048; omega
  · show 0 + 32 ≤ 32; omega

variable (c : Dev nD)

/-- A buffer held whole at contents `f`. -/
abbrev own {sp : Space} {s : Shape} {e : EltTy} (M : Memref sig .tc sp s e) (f : Buf (Elt F) (M.view.loc (c : Thread nD τ))) : sProp 𝕄 :=
  M.view.loc (c : Thread nD τ) ↦[M.view.set]{fullShare} f

variable (X : Buf (Elt F) (xM.view.loc (c : Thread nD τ))) (CK : Buf (Elt F) (ckM.view.loc (c : Thread nD τ)))

/-- Graph `b`'s node features, the mask column left out. -/
abbrev feats (b : Fin 8) : Vec F S1x2048x64 .f32 := xM.view.readAt (Elt F) (Rect.unit (s := S8x2048x65) (gOff b) S1x2048x64.size (gOff_x b)).toLoadRect X
/-- Graph `b`'s features times the first layer's weights. -/
def hblk (b : Fin 8) : Vec F S1x2048x32 .f32 :=
  k0_pay12 (feats c X b) (ckM.view.readAt (Elt F) (Rect.unit (s := S64x32) ![0, 0] S64x32.size inb_S64x32_S64x32_0_0).toLoadRect CK)
/-- Graph `b` of the scratch array. -/
abbrev hAt (f : Buf (Elt F) (hM.view.loc (c : Thread nD τ))) (b : Fin 8) : Vec F S1x2048x32 .f32 :=
  hM.view.readAt (Elt F) (Rect.unit (s := S8x2048x32) (gOff b) S1x2048x32.size (gOff_h b)).toLoadRect f

theorem k8 (k : Fin k0_t1_loop.trips) : k.val < 8 := Nat.lt_of_lt_of_eq k.isLt trips1
theorem off1 : ∀ k : Fin k0_t1_loop.trips, k0_off1 k = gOff ⟨k.val, k8 k⟩ := by decide +kernel
theorem off2 : ∀ k : Fin k0_t1_loop.trips, k0_off2 k = gOff ⟨k.val, k8 k⟩ := by decide +kernel

/-- One trip: graph `k`'s rows of the scratch array are written, the other graphs' rows are left. -/
theorem conv_trip (k : Fin k0_t1_loop.trips) (f : Buf (Elt F) (hM.view.loc (c : Thread nD τ))) :
    iprop(own c xM X ∗ own c ckM CK ∗ own c hM f)
      ⊢ wp frame (wpE (defs₀ (F := F)) 𝒱₀ (c : Thread nD τ) none) Set.univ (k0_t1_body (F := F) xM (Memref.isWhole_whole _) aM (Memref.isWhole_whole _) ckM (Memref.isWhole_whole _) cbM (Memref.isWhole_whole _) dkM (Memref.isWhole_whole _) dbM (Memref.isWhole_whole _) lkM (Memref.isWhole_whole _) lbM (Memref.isWhole_whole _) oM (Memref.isWhole_whole _) hM (Memref.isWhole_whole _) sM (Memref.isWhole_whole _) mM (Memref.isWhole_whole _) bufM (Memref.isWhole_whole _) cc0_scoped1 k ())
        (fun _ => iprop(own c xM X ∗ own c ckM CK ∗ ∃ f', ⌜hAt c f' ⟨k.val, k8 k⟩ = hblk c X CK ⟨k.val, k8 k⟩
          ∧ ∀ b : Fin 8, b.val ≠ k.val → hAt c f' b = hAt c f b⌝ ∗ own c hM f')) := by
  have hk : k.val < 8 := Nat.lt_of_lt_of_le k.isLt k0_t1_abs.2.1
  unfold k0_t1_body
  iintro ⟨HX, HC, HH⟩
  sl_exec
  sl_step
  isplitl [HX]
  · iexact HX
  isplitl [HC]
  · iexact HC
  iexists _
  isplitr [HH]
  rotate_left
  · iexact HH
  · ipureintro
    constructor
    · refine (readAt_stored hM.view f _ _ (off2 k) _).trans ?_
      unfold hblk feats
      rw [readAt_off xM.view X (off1 k) _ (gOff_x _)]
    · intro b hb
      refine readAt_apart hM.view f _ _ _ (0 : Fin 3) ?_
      rw [off2 k]
      show b.val + 1 ≤ k.val ∨ k.val + 1 ≤ b.val
      omega

/-- The first loop by its invariant: the graphs before `k` are computed. -/
@[sl_loop, reducible] def convInv :
    LoopInvTy_k0_t1 (F := F) Unit ℕ (UU nD τ) ℕ 𝒱₀ c none Set.univ xM (Memref.isWhole_whole _) aM (Memref.isWhole_whole _) ckM (Memref.isWhole_whole _) cbM (Memref.isWhole_whole _) dkM (Memref.isWhole_whole _) dbM (Memref.isWhole_whole _) lkM (Memref.isWhole_whole _) lbM (Memref.isWhole_whole _) oM (Memref.isWhole_whole _) hM (Memref.isWhole_whole _) sM (Memref.isWhole_whole _) mM (Memref.isWhole_whole _) bufM (Memref.isWhole_whole _) cc0_scoped1 where
  inv k _ := iprop(own c xM X ∗ own c ckM CK ∗ ∃ f, ⌜∀ b : Fin 8, b.val < k → hAt c f b = hblk c X CK b⌝ ∗ own c hM f)
  step k _ := by
    iintro ⟨HX, HC, ⟨%f, %hf, HH⟩⟩
    iapply (wp_wand_r Idealize.ShloMosaic.frame (wpE (defs₀ (F := F)) 𝒱₀ (c : Thread nD τ) none) Set.univ)
    isplitl [HX HC HH]
    · iapply (conv_trip c X CK k f) $$ [HX HC HH]
      isplitl [HX]
      · iexact HX
      isplitl [HC]
      · iexact HC
      iexact HH
    iintro %u ⟨HX, HC, ⟨%f', %hf', HH⟩⟩
    isplitl [HX]
    · iexact HX
    isplitl [HC]
    · iexact HC
    iexists f'
    isplitr [HH]
    rotate_left
    · iexact HH
    · ipureintro
      intro b hb
      by_cases hbk : b.val = k.val
      · obtain rfl : b = ⟨k.val, k8 k⟩ := Fin.ext hbk
        exact hf'.1
      · exact (hf'.2 b hbk).trans (hf b (by omega))

end Cert.Proof.Gcn

end
-- ==== Proof.Trip.lean ====
/-
  One trip of the main loop: the fetch of the block three ahead, the wait for the trip's own block, the block's product
  added into the graph's running sum and maximum, and, at a graph's last block, the graph's output row.
-/
module

public import proofs.«01_k».proof.Proof.Conv

@[expose] public section

noncomputable section

namespace Cert.Proof.Gcn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XA : Buf (Elt F) (aM.view.loc (c : Thread nD τ)))

/-! ## The fetch, whether or not a block is left -/

/-- A slot not in use. -/
def freeP (s : Fin 4) : sProp 𝕄 := iprop(cellP c s ∗ ∃ f, slotP c s f)
/-- Block `i`'s elements, where there is a block `i`. -/
def homeIf (i : ℕ) : sProp 𝕄 := if h : i < 32 then homeP c XA ⟨i, h⟩ else iprop(emp)
/-- Block `i`'s slot: the block on its way to it, or, past the last block, not in use. -/
def aheadP (i : ℕ) : sProp 𝕄 := if h : i < 32 then iprop(∃ f, flightP c XA (sl i) ⟨i, h⟩ f) else freeP c (sl i)

/-- The main loop's fetch at trip `k`: block `k + 3`, if there is one, is on its way to its slot. -/
theorem fetch (k : Fin k0_t2_loop.trips) (v b j : BitVec 32) (hv : v = iw (k.val + 4)) (hb : b = bw (min (k.val + 2) 31 + 1)) (hj : j = jw (min (k.val + 2) 31 + 1))
    (K : W5 → sProp 𝕄) :
    iprop((∃ W, owes (c : Thread nD τ) 0 W) ∗ freeP c (sl (k.val + 3)) ∗ homeIf c XA (k.val + 3)
      ∗ ((∃ W, owes (c : Thread nD τ) 0 W) -∗ aheadP c XA (k.val + 3) -∗ K (bw (min (k.val + 3) 31), jw (min (k.val + 3) 31), bw (min (k.val + 3) 31 + 1), jw (min (k.val + 3) 31 + 1), iw (min (k.val + 3) 31 + 1))))
    ⊢ wp frame (wpE (defs₀ (F := F)) 𝒱₀ (c : Thread nD τ) (some 1)) Set.univ
      (defs₀ (F := F) .tc 3 ⟨k, v, cc0_scoped1, bufM, Memref.isWhole_whole _, aM, Memref.isWhole_whole _, bw (min (k.val + 2) 31), jw (min (k.val + 2) 31), b, j, iw (min (k.val + 2) 31 + 1)⟩) K := by
  have hk : k.val < 32 := Nat.lt_of_lt_of_eq k.isLt trips2
  subst hv hb hj
  unfold freeP homeIf aheadP
  by_cases h : k.val + 3 < 32
  · rw [dif_pos h, dif_pos h, Nat.min_eq_left (by omega : k.val + 2 ≤ 31), Nat.min_eq_left (by omega : k.val + 3 ≤ 31)]
    iintro ⟨HW, ⟨HC, ⟨%f, HS⟩⟩, HH, HK⟩
    iapply (while3_step c XA k (k.val + 2) h f K)
    isplitl [HW]
    · iexact HW
    isplitl [HC]
    · iexact HC
    isplitl [HS]
    · iexact HS
    isplitl [HH]
    · iexact HH
    iintro HW HF
    iapply HK $$ [HW] [HF]
    · iexact HW
    · iexists f
      iexact HF
  · rw [dif_neg h, dif_neg h, Nat.min_eq_right (by omega : 31 ≤ k.val + 2), Nat.min_eq_right (by omega : 31 ≤ k.val + 3)]
    iintro ⟨HW, HS, -, HK⟩
    iapply (while3_exit c k _ _ _ _ _ _ (test_end ⟨k.val + 4, by omega⟩) 1)
    iapply HK $$ [HW] [HS]
    · iexact HW
    · unfold freeP
      iexact HS

theorem bound_eq : ∀ k : Fin k0_t2_loop.trips, Scalar.addi (wk k) 4#32 = iw (k.val + 4) := by decide +kernel
theorem nextJ_min : ∀ k : Fin k0_t2_loop.trips, nextJ (jw (min (k.val + 2) 31)) = jw (min (k.val + 2) 31 + 1) := by decide +kernel
theorem nextB_min : ∀ k : Fin k0_t2_loop.trips, nextB (bw (min (k.val + 2) 31)) (jw (min (k.val + 2) 31)) = bw (min (k.val + 2) 31 + 1) := by decide +kernel

/-! ## What a trip computes -/

variable (X : Buf (Elt F) (xM.view.loc (c : Thread nD τ))) (CK : Buf (Elt F) (ckM.view.loc (c : Thread nD τ)))
  (CB : Buf (Elt F) (cbM.view.loc (c : Thread nD τ))) (DK : Buf (Elt F) (dkM.view.loc (c : Thread nD τ)))
  (DB : Buf (Elt F) (dbM.view.loc (c : Thread nD τ))) (LK : Buf (Elt F) (lkM.view.loc (c : Thread nD τ)))
  (LB : Buf (Elt F) (lbM.view.loc (c : Thread nD τ)))

/-- Block `i`, the count taken round. -/
abbrev bi (i : ℕ) : Fin 32 := ⟨i % 32, Nat.mod_lt _ (by decide)⟩
/-- Block `i`'s graph. -/
abbrev gr (i : ℕ) : Fin 8 := ⟨i / 4 % 8, Nat.mod_lt _ (by decide)⟩
/-- Where block `i`'s rows of the mask column start. -/
abbrev colOff (i : ℕ) : Fin 3 → ℕ := ![i / 4 % 8, 512 * (i % 4), 64]
theorem colOff_inb (i : ℕ) : ∀ a, colOff i a + S1x512x1.size a ≤ S8x2048x65.size a := by
  intro a; fin_cases a
  · show i / 4 % 8 + 1 ≤ 8; omega
  · show 512 * (i % 4) + 512 ≤ 2048; omega
  · show 64 + 1 ≤ 65; omega
abbrev maskOff (b : Fin 8) : Fin 3 → ℕ := ![b.val, 0, 64]
theorem maskOff_inb (b : Fin 8) : ∀ a, maskOff b a + S1x2048x1.size a ≤ S8x2048x65.size a := by
  have := b.isLt; intro a; fin_cases a
  · show b.val + 1 ≤ 8; omega
  · show 0 + 2048 ≤ 2048; omega
  · show 64 + 1 ≤ 65; omega
theorem gOff_o (b : Fin 8) : ∀ a, gOff b a + S1x1x128.size a ≤ S8x1x128.size a := by
  have := b.isLt; intro a; fin_cases a
  · show b.val + 1 ≤ 8; omega
  · show 0 + 1 ≤ 1; omega
  · show 0 + 128 ≤ 128; omega

/-- Block `i` of the adjacency array. -/
abbrev blkV (i : ℕ) : Vec F S1x512x2048 .f32 := (blk (bi i)).view.read (Elt F) XA
/-- Block `i`'s rows of the mask column. -/
abbrev colV (i : ℕ) : Vec F S1x512x1 .f32 := xM.view.readAt (Elt F) (Rect.unit (s := S8x2048x65) (colOff i) S1x512x1.size (colOff_inb i)).toLoadRect X
/-- Graph `b`'s mask column. -/
abbrev maskV (b : Fin 8) : Vec F S1x2048x1 .f32 := xM.view.readAt (Elt F) (Rect.unit (s := S8x2048x65) (maskOff b) S1x2048x1.size (maskOff_inb b)).toLoadRect X
/-- Block `i`'s rows of the layer's product, before the bias. -/
def prodV (i : ℕ) : FVec F S512x32 .f32 := k0_pay2 (blkV c XA i) (hblk c X CK (gr i))
/-- Those rows, zero where the mask is. -/
def keptV (i : ℕ) : FVec F S512x32 .f32 := k0_pay4 (blkV c XA i) (hblk c X CK (gr i)) (colV c X i)

/-- The running sum of graph `b` after its row blocks `0 … j`. -/
def sumV (b : ℕ) : ℕ → FVec F S512x32 .f32
  | 0 => k0_pay7 (keptV c XA X CK (4 * b))
  | j + 1 => k0_pay9 (keptV c XA X CK (4 * b + (j + 1))) (sumV b j)
/-- The running maximum of graph `b` after its row blocks `0 … j`. -/
def maxV (b : ℕ) : ℕ → FVec F S512x32 .f32
  | 0 => k0_pay8 (prodV c XA X CK (4 * b)) (Scalar.ofBits .f32 0xFF800000#32) (k0_pay5 (colV c X (4 * b)))
  | j + 1 => k0_pay10 (prodV c XA X CK (4 * b + (j + 1))) (Scalar.ofBits .f32 0xFF800000#32) (k0_pay5 (colV c X (4 * b + (j + 1)))) (maxV b j)

abbrev readS (f : Buf (Elt F) (sM.view.loc (c : Thread nD τ))) : Vec F S512x32 .f32 :=
  sM.view.readAt (Elt F) (Rect.unit (s := S512x32) ![0, 0] S512x32.size inb_S512x32_S512x32_0_0).toLoadRect f
abbrev readM (f : Buf (Elt F) (mM.view.loc (c : Thread nD τ))) : Vec F S512x32 .f32 :=
  mM.view.readAt (Elt F) (Rect.unit (s := S512x32) ![0, 0] S512x32.size inb_S512x32_S512x32_0_0).toLoadRect f
abbrev readO (f : Buf (Elt F) (oM.view.loc (c : Thread nD τ))) (b : Fin 8) : Vec F S1x1x128 .f32 :=
  oM.view.readAt (Elt F) (Rect.unit (s := S8x1x128) (gOff b) S1x1x128.size (gOff_o b)).toLoadRect f

/-- Graph `b`'s output row. -/
def outV (b : Fin 8) : FVec F S1x1x128 .f32 :=
  k0_pay11 (k0_pay1 (maskV c X b) (sumV c XA X CK b.val 3) (maxV c XA X CK b.val 3)
      (cbM.view.readAt (Elt F) (Rect.unit (s := S1x32) ![0, 0] S1x32.size inb_S1x32_S1x32_0_0).toLoadRect CB)
      (cbM.view.readAt (Elt F) (Rect.unit (s := S1x32) ![0, 0] S1x32.size inb_S1x32_S1x32_0_0).toLoadRect CB)
      (dkM.view.readAt (Elt F) (Rect.unit (s := S64x512) ![0, 0] S64x512.size inb_S64x512_S64x512_0_0).toLoadRect DK)
      (dbM.view.readAt (Elt F) (Rect.unit (s := S1x512) ![0, 0] S1x512.size inb_S1x512_S1x512_0_0).toLoadRect DB))
    (Scalar.ofBits .f32 0x00000000#32)
    (lkM.view.readAt (Elt F) (Rect.unit (s := S512x128) ![0, 0] S512x128.size inb_S512x128_S512x128_0_0).toLoadRect LK)
    (lbM.view.readAt (Elt F) (Rect.unit (s := S1x128) ![0, 0] S1x128.size inb_S1x128_S1x128_0_0).toLoadRect LB)

/-- Before trip `k`, inside a graph: the running sum and maximum are those of the graph's blocks so far. -/
def accOk (k : ℕ) (fs : Buf (Elt F) (sM.view.loc (c : Thread nD τ))) (fm : Buf (Elt F) (mM.view.loc (c : Thread nD τ))) : Prop :=
  k % 4 ≠ 0 → readS c fs = sumV c XA X CK (k / 4) (k % 4 - 1) ∧ readM c fm = maxV c XA X CK (k / 4) (k % 4 - 1)
/-- Before trip `k`: the output rows of the graphs finished. -/
def outOk (k : ℕ) (fo : Buf (Elt F) (oM.view.loc (c : Thread nD τ))) : Prop :=
  ∀ b : Fin 8, b.val < k / 4 → readO c fo b = outV c XA X CK CB DK DB LK LB b

/-- What the loop only reads, held. -/
def readsP : sProp 𝕄 :=
  iprop(own c xM X ∗ own c cbM CB ∗ own c dkM DK ∗ own c dbM DB ∗ own c lkM LK ∗ own c lbM LB
    ∗ ∃ f, ⌜∀ b : Fin 8, hAt c f b = hblk c X CK b⌝ ∗ own c hM f)
/-- What the loop writes, held, at what it holds before trip `k`. -/
def writesP (k : ℕ) : sProp 𝕄 :=
  iprop((∃ fs fm, ⌜accOk c XA X CK k fs fm⌝ ∗ own c sM fs ∗ own c mM fm) ∗ ∃ fo, ⌜outOk c XA X CK CB DK DB LK LB k fo⌝ ∗ own c oM fo)

/-- A trip's tests: first block of its graph, later block. -/
abbrev isFirst (j : BitVec 32) : BitVec 1 := Scalar.cmpi .ne (Scalar.extui (Scalar.cmpi .eq (Scalar.addi j 0#32) 0#32)) 0#32
abbrev isLater (j : BitVec 32) : BitVec 1 := Scalar.cmpi .ne (Scalar.extui (Scalar.cmpi .sgt (Scalar.addi j 0#32) 0#32)) 0#32
theorem first_iff : ∀ k : Fin k0_t2_loop.trips, isFirst (wj k) = 1#1 ↔ k.val % 4 = 0 := by decide +kernel
theorem later_iff : ∀ k : Fin k0_t2_loop.trips, isLater (wj k) = 1#1 ↔ k.val % 4 ≠ 0 := by decide +kernel
theorem last_iff : ∀ k : Fin k0_t2_loop.trips, k0_cond7 (wj k) = 1#1 ↔ k.val % 4 = 3 := by decide +kernel

/-! ## What a trip's loads read -/

theorem off19' : ∀ k : Fin k0_t2_loop.trips, k0_off19 (wb k) = gOff (gr k.val) := by decide +kernel
theorem off20' : ∀ k : Fin k0_t2_loop.trips, k0_off20 (wb k) (wj k) = colOff k.val := by decide +kernel
theorem off21' : ∀ k : Fin k0_t2_loop.trips, k0_off21 (wb k) = maskOff (gr k.val) := by decide +kernel
theorem off22' : ∀ k : Fin k0_t2_loop.trips, k0_off22 (wb k) = gOff (gr k.val) := by decide +kernel

/-- The slot a block landed in holds the block, whatever it held before. -/
theorem slot_load (s : Fin 4) (i : Fin 32) (g : Buf (Elt F) ((slot s).view.loc (c : Thread nD τ))) (inb) :
    (slot s).view.readAt (Elt F) (Rect.unit (s := S1x512x2048) ![0, 0, 0] S1x512x2048.size inb).toLoadRect (landed c XA s i g)
      = (blk i).view.read (Elt F) XA := by
  funext y
  refine View.read_writes_cons_hit (slot s).view g (Rect.whole S1x512x2048) _ [] y _ ?_
  rw [Rect.emb_whole_apply]
  refine funext fun a => Fin.ext ?_
  show (y a).val = (![0, 0, 0] : Fin 3 → ℕ) a + 1 * (y a).val
  have : (![0, 0, 0] : Fin 3 → ℕ) a = 0 := by fin_cases a <;> rfl
  omega

theorem bi_bk (k : Fin k0_t2_loop.trips) (hk : k.val < 32) : (⟨k.val, hk⟩ : Fin 32) = bi k.val := Fin.ext (Nat.mod_eq_of_lt hk).symm

/-- The trip's rows of the layer's product. -/
theorem prod_eq (i : ℕ) (v1 : Vec F S1x512x2048 .f32) (v2 : Vec F S1x2048x32 .f32) (e1 : v1 = blkV c XA i) (e2 : v2 = hblk c X CK (gr i)) :
    k0_pay2 v1 v2 = prodV c XA X CK i := by
  subst e1 e2; rfl
/-- Those rows, zero where the mask is. -/
theorem kept_eq (i : ℕ) (v1 : Vec F S1x512x2048 .f32) (v2 : Vec F S1x2048x32 .f32) (v3 : Vec F S1x512x1 .f32) (e1 : v1 = blkV c XA i)
    (e2 : v2 = hblk c X CK (gr i)) (e3 : v3 = colV c X i) : k0_pay4 v1 v2 v3 = keptV c XA X CK i := by
  subst e1 e2 e3; rfl

theorem blk_load (k : Fin k0_t2_loop.trips) (hk : k.val < 32) (s : Fin 4) (g : Buf (Elt F) ((slot s).view.loc (c : Thread nD τ))) (inb) :
    (slot s).view.readAt (Elt F) (Rect.unit (s := S1x512x2048) ![0, 0, 0] S1x512x2048.size inb).toLoadRect (landed c XA s ⟨k.val, hk⟩ g)
      = blkV c XA k.val := by
  rw [slot_load, bi_bk]
theorem h_load (k : Fin k0_t2_loop.trips) (fh : Buf (Elt F) (hM.view.loc (c : Thread nD τ))) (hh : ∀ b : Fin 8, hAt c fh b = hblk c X CK b) (inb) :
    hM.view.readAt (Elt F) (Rect.unit (s := S8x2048x32) (k0_off19 (wb k)) S1x2048x32.size inb).toLoadRect fh = hblk c X CK (gr k.val) :=
  (readAt_off hM.view fh (off19' k) _ (gOff_h _)).trans (hh _)
theorem col_load (k : Fin k0_t2_loop.trips) (inb) :
    xM.view.readAt (Elt F) (Rect.unit (s := S8x2048x65) (k0_off20 (wb k) (wj k)) S1x512x1.size inb).toLoadRect X = colV c X k.val :=
  readAt_off xM.view X (off20' k) _ (colOff_inb _)
theorem mask_load (k : Fin k0_t2_loop.trips) (inb) :
    xM.view.readAt (Elt F) (Rect.unit (s := S8x2048x65) (k0_off21 (wb k)) S1x2048x1.size inb).toLoadRect X = maskV c X (gr k.val) :=
  readAt_off xM.view X (off21' k) _ (maskOff_inb _)

/-! ## What a trip's stores leave -/

/-- The running sum and maximum after a graph's first block. -/
theorem acc_first (k : ℕ) (hk : k % 4 = 0) (fs : Buf (Elt F) (sM.view.loc (c : Thread nD τ))) (fm : Buf (Elt F) (mM.view.loc (c : Thread nD τ)))
    (v z : FVec F S512x32 .f32) (w : IVec S512x32 1) (ev : v = keptV c XA X CK k) (ez : z = prodV c XA X CK k) (ew : w = k0_pay5 (colV c X k))
    (es : readS c fs = k0_pay7 v) (em : readM c fm = k0_pay8 z (Scalar.ofBits .f32 0xFF800000#32) w) :
    accOk c XA X CK (k + 1) fs fm := by
  subst ev ez ew
  intro _
  have e1 : (k + 1) / 4 = k / 4 := by omega
  have e2 : (k + 1) % 4 - 1 = 0 := by omega
  have e3 : 4 * (k / 4) = k := by omega
  rw [e1, e2, es, em]
  unfold sumV maxV
  rw [e3]
  exact ⟨rfl, rfl⟩

/-- The running sum after a later block. -/
theorem sum_later (k : ℕ) (hk : k % 4 ≠ 0) (fs : Buf (Elt F) (sM.view.loc (c : Thread nD τ))) (fm : Buf (Elt F) (mM.view.loc (c : Thread nD τ)))
    (h : accOk c XA X CK k fs fm) (v : FVec F S512x32 .f32) (ev : v = keptV c XA X CK k) :
    k0_pay9 v (readS c fs) = sumV c XA X CK (k / 4) (k % 4) := by
  subst ev
  obtain ⟨j, hj⟩ : ∃ j, k % 4 = j + 1 := ⟨k % 4 - 1, by omega⟩
  have e3 : 4 * (k / 4) + (j + 1) = k := by omega
  rw [(h hk).1, hj, Nat.add_sub_cancel]
  rw [show sumV c XA X CK (k / 4) (j + 1) = k0_pay9 (keptV c XA X CK (4 * (k / 4) + (j + 1))) (sumV c XA X CK (k / 4) j) from rfl, e3]
/-- The running maximum after a later block. -/
theorem max_later (k : ℕ) (hk : k % 4 ≠ 0) (fs : Buf (Elt F) (sM.view.loc (c : Thread nD τ))) (fm : Buf (Elt F) (mM.view.loc (c : Thread nD τ)))
    (h : accOk c XA X CK k fs fm) (z : FVec F S512x32 .f32) (w : IVec S512x32 1) (ez : z = prodV c XA X CK k) (ew : w = k0_pay5 (colV c X k)) :
    k0_pay10 z (Scalar.ofBits .f32 0xFF800000#32) w (readM c fm) = maxV c XA X CK (k / 4) (k % 4) := by
  subst ez ew
  obtain ⟨j, hj⟩ : ∃ j, k % 4 = j + 1 := ⟨k % 4 - 1, by omega⟩
  have e3 : 4 * (k / 4) + (j + 1) = k := by omega
  rw [(h hk).2, hj, Nat.add_sub_cancel]
  rw [show maxV c XA X CK (k / 4) (j + 1) = k0_pay10 (prodV c XA X CK (4 * (k / 4) + (j + 1))) (Scalar.ofBits .f32 0xFF800000#32)
    (k0_pay5 (colV c X (4 * (k / 4) + (j + 1)))) (maxV c XA X CK (k / 4) j) from rfl, e3]

/-- The running sum and maximum after a block that is neither a graph's first nor its last. -/
theorem acc_later (k : ℕ) (hk : k % 4 ≠ 3) (fs : Buf (Elt F) (sM.view.loc (c : Thread nD τ))) (fm : Buf (Elt F) (mM.view.loc (c : Thread nD τ)))
    (es : readS c fs = sumV c XA X CK (k / 4) (k % 4)) (em : readM c fm = maxV c XA X CK (k / 4) (k % 4)) :
    accOk c XA X CK (k + 1) fs fm := by
  intro _
  have e1 : (k + 1) / 4 = k / 4 := by omega
  have e2 : (k + 1) % 4 - 1 = k % 4 := by omega
  rw [e1, e2]
  exact ⟨es, em⟩

/-- No graph is finished by a block that is not a graph's last. -/
theorem out_same (k : ℕ) (hk : k % 4 ≠ 3) (fo : Buf (Elt F) (oM.view.loc (c : Thread nD τ))) (h : outOk c XA X CK CB DK DB LK LB k fo) :
    outOk c XA X CK CB DK DB LK LB (k + 1) fo :=
  fun b hb => h b (by omega)

/-- A graph's output row, from what the last trip of the graph loads. -/
theorem out_eq (b : Fin 8) (m : Vec F S1x2048x1 .f32) (s t : Vec F S512x32 .f32) (em : m = maskV c X b) (es : s = sumV c XA X CK b.val 3)
    (et : t = maxV c XA X CK b.val 3) :
    k0_pay11 (k0_pay1 m s t
        (cbM.view.readAt (Elt F) (Rect.unit (s := S1x32) ![0, 0] S1x32.size inb_S1x32_S1x32_0_0).toLoadRect CB)
        (cbM.view.readAt (Elt F) (Rect.unit (s := S1x32) ![0, 0] S1x32.size inb_S1x32_S1x32_0_0).toLoadRect CB)
        (dkM.view.readAt (Elt F) (Rect.unit (s := S64x512) ![0, 0] S64x512.size inb_S64x512_S64x512_0_0).toLoadRect DK)
        (dbM.view.readAt (Elt F) (Rect.unit (s := S1x512) ![0, 0] S1x512.size inb_S1x512_S1x512_0_0).toLoadRect DB))
      (Scalar.ofBits .f32 0x00000000#32)
      (lkM.view.readAt (Elt F) (Rect.unit (s := S512x128) ![0, 0] S512x128.size inb_S512x128_S512x128_0_0).toLoadRect LK)
      (lbM.view.readAt (Elt F) (Rect.unit (s := S1x128) ![0, 0] S1x128.size inb_S1x128_S1x128_0_0).toLoadRect LB)
      = outV c XA X CK CB DK DB LK LB b := by
  subst em es et; rfl

/-- The output row of the graph a trip finishes is written, the other rows are left. -/
theorem out_stored (k : Fin k0_t2_loop.trips) (hk : k.val < 32) (hl : k.val % 4 = 3) (fo : Buf (Elt F) (oM.view.loc (c : Thread nD τ)))
    (h : outOk c XA X CK CB DK DB LK LB k.val fo) (inb) (w : FVec F S1x1x128 .f32) (ew : w = outV c XA X CK CB DK DB LK LB (gr k.val)) :
    outOk c XA X CK CB DK DB LK LB (k.val + 1)
      (oM.view.writes (Elt F) fo [⟨Rect.unit (s := S8x1x128) (k0_off22 (wb k)) S1x1x128.size inb, w⟩]) := by
  intro b hb
  by_cases hbk : b.val = k.val / 4
  · obtain rfl : b = gr k.val := Fin.ext (by show b.val = k.val / 4 % 8; omega)
    exact (readAt_stored oM.view fo _ _ (off22' k) _).trans ew
  · refine (readAt_apart oM.view fo _ _ _ (0 : Fin 3) ?_).trans (h b (by omega))
    rw [off22' k]
    show b.val + 1 ≤ k.val / 4 % 8 ∨ k.val / 4 % 8 + 1 ≤ b.val
    omega

/-! ## The trip -/

/-- The words a trip yields are the next trip's. -/
theorem words_next : ∀ k : Fin k0_t2_loop.trips,
    (iw (min (k.val + 3) 31 + 1),
      Scalar.select (Scalar.ori (Scalar.ori
          (Scalar.cmpi .ne (Scalar.addi (wb k) 0#32) (Scalar.addi (Scalar.select (Scalar.cmpi .eq (Scalar.select (Scalar.cmpi .eq (Scalar.select 1#1 (Scalar.addi (wj k) 1#32) (wj k)) 4#32) (Scalar.addi (wb k) 1#32) (wb k)) 8#32) 0#32 (Scalar.select (Scalar.cmpi .eq (Scalar.select 1#1 (Scalar.addi (wj k) 1#32) (wj k)) 4#32) (Scalar.addi (wb k) 1#32) (wb k))) 0#32))
          (Scalar.cmpi .ne (Scalar.addi (wj k) 0#32) (Scalar.addi (Scalar.select (Scalar.cmpi .eq (Scalar.select 1#1 (Scalar.addi (wj k) 1#32) (wj k)) 4#32) 0#32 (Scalar.select 1#1 (Scalar.addi (wj k) 1#32) (wj k))) 0#32)))
        (Scalar.cmpi .eq (Scf.iv 0#32 1#32 k) 31#32)) (Scalar.addi (iw k.val) 1#32) (iw k.val),
      bw (min (k.val + 3) 31), jw (min (k.val + 3) 31),
      Scalar.select (Scalar.cmpi .eq (Scalar.select (Scalar.cmpi .eq (Scalar.select 1#1 (Scalar.addi (wj k) 1#32) (wj k)) 4#32) (Scalar.addi (wb k) 1#32) (wb k)) 8#32) 0#32 (Scalar.select (Scalar.cmpi .eq (Scalar.select 1#1 (Scalar.addi (wj k) 1#32) (wj k)) 4#32) (Scalar.addi (wb k) 1#32) (wb k)),
      Scalar.select (Scalar.cmpi .eq (Scalar.select 1#1 (Scalar.addi (wj k) 1#32) (wj k)) 4#32) 0#32 (Scalar.select 1#1 (Scalar.addi (wj k) 1#32) (wj k)))
    = carry (k.val + 1) := by decide +kernel

set_option maxHeartbeats 600000 in
/-- One trip. -/
theorem trip (k : Fin k0_t2_loop.trips) (h1 h2 h3 h4 h5 h6) :
    iprop(readsP c X CK CB DK DB LK LB ∗ writesP c XA X CK CB DK DB LK LB k.val ∗ (∃ W, owes (c : Thread nD τ) 0 W)
        ∗ aheadP c XA k.val ∗ freeP c (sl (k.val + 3)) ∗ homeIf c XA (k.val + 3))
      ⊢ wp frame (wpE (defs₀ (F := F)) 𝒱₀ (c : Thread nD τ) none) Set.univ (k0_t2_body (F := F) xM (Memref.isWhole_whole _) aM (Memref.isWhole_whole _) ckM (Memref.isWhole_whole _) cbM (Memref.isWhole_whole _) dkM (Memref.isWhole_whole _) dbM (Memref.isWhole_whole _) lkM (Memref.isWhole_whole _) lbM (Memref.isWhole_whole _) oM (Memref.isWhole_whole _) hM (Memref.isWhole_whole _) sM (Memref.isWhole_whole _) mM (Memref.isWhole_whole _) bufM (Memref.isWhole_whole _) cc0_scoped1 h1 h2 h3 h4 h5 h6 k (carry k.val))
        (fun r => iprop(⌜r = carry (k.val + 1)⌝ ∗ readsP c X CK CB DK DB LK LB ∗ writesP c XA X CK CB DK DB LK LB (k.val + 1) ∗ (∃ W, owes (c : Thread nD τ) 0 W)
          ∗ aheadP c XA (k.val + 3) ∗ freeP c (sl k.val) ∗ homeIf c XA k.val)) := by
  have hk : k.val < 32 := Nat.lt_of_lt_of_eq k.isLt trips2
  have c9 := chk9 k
  have c8 := chk8 k
  have c7 := chk7 k
  have c4 := cond4 k
  unfold readsP writesP
  rw [show aheadP c XA k.val = iprop(∃ f, flightP c XA (sl k.val) ⟨k.val, hk⟩ f) from dif_pos hk]
  unfold k0_t2_body
  rw [show carry k.val = (iw (min (k.val + 2) 31 + 1), iw k.val, bw (min (k.val + 2) 31), jw (min (k.val + 2) 31), BitVec.ofNat 32 (k.val / 4 % 8), BitVec.ofNat 32 (k.val % 4)) from rfl]
  iintro ⟨⟨HX, HCB, HDK, HDB, HLK, HLB, ⟨%fh, %hh, HH⟩⟩, ⟨⟨%fs, %fm, %hacc, HS, HM⟩, ⟨%fo, %hout, HO⟩⟩, ⟨%W, HW⟩, ⟨%f, HF⟩, HFree, HHome⟩
  sl_exec
  iapply (wp_call 𝒱₀ (c : Thread nD τ) none Set.univ 1 (fun u hu => nomatch hu))
  iapply (fetch c XA k _ _ _ (bound_eq k) (nextB_min k) (nextJ_min k))
  isplitl [HW]
  · iexists W
    iexact HW
  isplitl [HFree]
  · iexact HFree
  isplitl [HHome]
  · iexact HHome
  iintro ⟨%W', HW⟩ HA
  by_cases hj : k.val % 4 = 0
  · have t1 := (first_iff k).mpr hj
    have t2 : ¬ isLater (wj k) = 1#1 := fun h => (later_iff k).mp h hj
    have t3 : ¬ k0_cond7 (wj k) = 1#1 := fun h => by have := (last_iff k).mp h; omega
    sl_exec
    have ez : trip.sl.r_2 c XA k hk c9 fh = prodV c XA X CK k.val := by
      unfold trip.sl.r_2 trip.sl.v225_r0 trip.sl.v228_r0 View.readCov
      exact prod_eq c XA X CK k.val _ _ (blk_load c XA k hk (sl k.val) _ _) (h_load c X CK k fh hh _)
    have ev : trip.sl.r_3 c XA X k hk c9 c7 fh = keptV c XA X CK k.val := by
      unfold trip.sl.r_3 trip.sl.v225_r0 trip.sl.v228_r0 trip.sl.v234_r0 View.readCov
      exact kept_eq c XA X CK k.val _ _ _ (blk_load c XA k hk (sl k.val) _ _) (h_load c X CK k fh hh _) (col_load c X k _)
    have ew : trip.sl.r_4 c X k c7 = k0_pay5 (colV c X k.val) := by
      unfold trip.sl.r_4 trip.sl.v234_r0
      exact congrArg k0_pay5 (col_load c X k _)
    sl_step
    isplitr [HX HCB HDK HDB HLK HLB HH HS HM HO HW HF_dst HF_src HF HA]
    · ipureintro
      exact words_next k
    isplitl [HX HCB HDK HDB HLK HLB HH]
    · isplitl [HX]
      · iexact HX
      isplitl [HCB]
      · iexact HCB
      isplitl [HDK]
      · iexact HDK
      isplitl [HDB]
      · iexact HDB
      isplitl [HLK]
      · iexact HLK
      isplitl [HLB]
      · iexact HLB
      iexists fh
      isplitr [HH]
      · ipureintro
        exact hh
      · iexact HH
    isplitl [HS HM HO]
    · isplitl [HS HM]
      · iexists _
        iexists _
        isplitr [HS HM]
        rotate_left
        · isplitl [HS]
          · iexact HS
          · iexact HM
        · ipureintro
          refine acc_first c XA X CK k.val hj _ _ _ _ _ ev ez ew ?_ ?_
          · exact readAt_stored sM.view fs _ _ rfl _
          · exact readAt_stored mM.view fm _ _ rfl _
      · iexists _
        isplitr [HO]
        rotate_left
        · iexact HO
        · ipureintro
          exact out_same c XA X CK CB DK DB LK LB k.val (by omega) fo hout
    isplitl [HW]
    · iexists _
      iexact HW
    isplitl [HA]
    · iexact HA
    isplitl [HF HF_dst]
    · unfold freeP
      isplitl [HF]
      · iexact HF
      · iexists _
        iexact HF_dst
    · rw [show homeIf c XA k.val = homeP c XA ⟨k.val, hk⟩ from dif_pos hk]
      iexact HF_src
  · have t1 : ¬ isFirst (wj k) = 1#1 := fun h => hj ((first_iff k).mp h)
    have t2 := (later_iff k).mpr hj
    by_cases hl : k.val % 4 = 3
    · have t3 := (last_iff k).mpr hl
      sl_exec
      have ez : trip.sl.r_10 c XA k hk c9 fh = prodV c XA X CK k.val := by
        unfold trip.sl.r_10 trip.sl.v225_r0_1 trip.sl.v228_r0_1 View.readCov
        exact prod_eq c XA X CK k.val _ _ (blk_load c XA k hk (sl k.val) _ _) (h_load c X CK k fh hh _)
      have ev : trip.sl.r_11 c XA X k hk c9 c7 fh = keptV c XA X CK k.val := by
        unfold trip.sl.r_11 trip.sl.v225_r0_1 trip.sl.v228_r0_1 trip.sl.v234_r0_1 View.readCov
        exact kept_eq c XA X CK k.val _ _ _ (blk_load c XA k hk (sl k.val) _ _) (h_load c X CK k fh hh _) (col_load c X k _)
      have ew : trip.sl.r_12 c X k c7 = k0_pay5 (colV c X k.val) := by
        unfold trip.sl.r_12 trip.sl.v234_r0_1
        exact congrArg k0_pay5 (col_load c X k _)
      sl_step
      isplitr [HX HCB HDK HDB HLK HLB HH HS HM HO HW HF_dst HF_src HF HA]
      · ipureintro
        exact words_next k
      isplitl [HX HCB HDK HDB HLK HLB HH]
      · isplitl [HX]
        · iexact HX
        isplitl [HCB]
        · iexact HCB
        isplitl [HDK]
        · iexact HDK
        isplitl [HDB]
        · iexact HDB
        isplitl [HLK]
        · iexact HLK
        isplitl [HLB]
        · iexact HLB
        iexists fh
        isplitr [HH]
        · ipureintro
          exact hh
        · iexact HH
      isplitl [HS HM HO]
      · isplitl [HS HM]
        · iexists _
          iexists _
          isplitr [HS HM]
          rotate_left
          · isplitl [HS]
            · iexact HS
            · iexact HM
          · ipureintro
            exact fun h => absurd h (by omega)
        · iexists _
          isplitr [HO]
          rotate_left
          · iexact HO
          · ipureintro
            have e3 : k.val / 4 % 8 = k.val / 4 := by omega
            have es : trip.sl.v295_r0 c XA X k hk c9 c7 fh fs = sumV c XA X CK (gr k.val).val 3 := by
              unfold trip.sl.v295_r0 trip.sl.HS_1 View.readCov
              refine (readAt_stored sM.view _ _ _ rfl _).trans ((sum_later c XA X CK k.val hj fs fm hacc _ ev).trans ?_)
              rw [hl, show (gr k.val).val = k.val / 4 from e3]
            have em : trip.sl.v298_r0 c XA X k hk c9 c7 fh fm = maxV c XA X CK (gr k.val).val 3 := by
              unfold trip.sl.v298_r0 trip.sl.HM_1 View.readCov
              refine (readAt_stored mM.view _ _ _ rfl _).trans ((max_later c XA X CK k.val hj fs fm hacc _ _ ez ew).trans ?_)
              rw [hl, show (gr k.val).val = k.val / 4 from e3]
            refine out_stored c XA X CK CB DK DB LK LB k hk hl fo hout _ _ ?_
            unfold trip.sl.r_13 trip.sl.v285_r0
            exact out_eq c XA X CK CB DK DB LK LB (gr k.val) _ _ _ (mask_load c X k _) es em
      isplitl [HW]
      · iexists _
        iexact HW
      isplitl [HA]
      · iexact HA
      isplitl [HF HF_dst]
      · unfold freeP
        isplitl [HF]
        · iexact HF
        · iexists _
          iexact HF_dst
      · rw [show homeIf c XA k.val = homeP c XA ⟨k.val, hk⟩ from dif_pos hk]
        iexact HF_src
    · have t3 : ¬ k0_cond7 (wj k) = 1#1 := fun h => hl ((last_iff k).mp h)
      sl_exec
      have ez : trip.sl.r_19 c XA k hk c9 fh = prodV c XA X CK k.val := by
        unfold trip.sl.r_19 trip.sl.v225_r0_2 trip.sl.v228_r0_2 View.readCov
        exact prod_eq c XA X CK k.val _ _ (blk_load c XA k hk (sl k.val) _ _) (h_load c X CK k fh hh _)
      have ev : trip.sl.r_20 c XA X k hk c9 c7 fh = keptV c XA X CK k.val := by
        unfold trip.sl.r_20 trip.sl.v225_r0_2 trip.sl.v228_r0_2 trip.sl.v234_r0_2 View.readCov
        exact kept_eq c XA X CK k.val _ _ _ (blk_load c XA k hk (sl k.val) _ _) (h_load c X CK k fh hh _) (col_load c X k _)
      have ew : trip.sl.r_21 c X k c7 = k0_pay5 (colV c X k.val) := by
        unfold trip.sl.r_21 trip.sl.v234_r0_2
        exact congrArg k0_pay5 (col_load c X k _)
      sl_step
      isplitr [HX HCB HDK HDB HLK HLB HH HS HM HO HW HF_dst HF_src HF HA]
      · ipureintro
        exact words_next k
      isplitl [HX HCB HDK HDB HLK HLB HH]
      · isplitl [HX]
        · iexact HX
        isplitl [HCB]
        · iexact HCB
        isplitl [HDK]
        · iexact HDK
        isplitl [HDB]
        · iexact HDB
        isplitl [HLK]
        · iexact HLK
        isplitl [HLB]
        · iexact HLB
        iexists fh
        isplitr [HH]
        · ipureintro
          exact hh
        · iexact HH
      isplitl [HS HM HO]
      · isplitl [HS HM]
        · iexists _
          iexists _
          isplitr [HS HM]
          rotate_left
          · isplitl [HS]
            · iexact HS
            · iexact HM
          · ipureintro
            refine acc_later c XA X CK k.val hl _ _ ?_ ?_
            · exact (readAt_stored sM.view fs _ _ rfl _).trans (sum_later c XA X CK k.val hj fs fm hacc _ ev)
            · exact (readAt_stored mM.view fm _ _ rfl _).trans (max_later c XA X CK k.val hj fs fm hacc _ _ ez ew)
        · iexists _
          isplitr [HO]
          rotate_left
          · iexact HO
          · ipureintro
            exact out_same c XA X CK CB DK DB LK LB k.val (by omega) fo hout
      isplitl [HW]
      · iexists _
        iexact HW
      isplitl [HA]
      · iexact HA
      isplitl [HF HF_dst]
      · unfold freeP
        isplitl [HF]
        · iexact HF
        · iexists _
          iexact HF_dst
      · rw [show homeIf c XA k.val = homeP c XA ⟨k.val, hk⟩ from dif_pos hk]
        iexact HF_src

end Cert.Proof.Gcn

end
-- ==== Proof.Loop.lean ====
/-
  The main loop: between its trips three blocks are on their way, the fourth slot is free, every other block is home, and
  the running sum, the running maximum and the rows already written are those of the trips before.
-/
module

public import proofs.«01_k».proof.Proof.Trip

@[expose] public section

noncomputable section

namespace Cert.Proof.Gcn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XA : Buf (Elt F) (aM.view.loc (c : Thread nD τ)))

/-! ## The blocks at home -/

/-- The blocks at home before trip `k`: all but `k`, `k + 1` and `k + 2`, which are on their way. -/
def homeSet (k : ℕ) : Finset (Fin 32) := Finset.univ.filter fun i => i.val < k ∨ k + 3 ≤ i.val
/-- The blocks at home throughout trip `k`: all but `k` to `k + 3`. -/
def midSet (k : ℕ) : Finset (Fin 32) := Finset.univ.filter fun i => i.val < k ∨ k + 4 ≤ i.val
theorem mem_homeSet (k : ℕ) (i : Fin 32) : i ∈ homeSet k ↔ i.val < k ∨ k + 3 ≤ i.val := by simp [homeSet]
theorem mem_midSet (k : ℕ) (i : Fin 32) : i ∈ midSet k ↔ i.val < k ∨ k + 4 ≤ i.val := by simp [midSet]

/-- Before trip `k` the block it fetches, if there is one, is home beside those that stay. -/
theorem homes_out (k : ℕ) : (bigSep (homeSet k) (homeP c XA) : sProp 𝕄) ⊢ iprop(homeIf c XA (k + 3) ∗ bigSep (midSet k) (homeP c XA)) := by
  unfold homeIf
  by_cases h : k + 3 < 32
  · rw [dif_pos h]
    have e : homeSet k = insert ⟨k + 3, h⟩ (midSet k) := by
      ext i; simp only [Finset.mem_insert, mem_homeSet, mem_midSet, Fin.ext_iff]; omega
    rw [e, bigSep_insert (by rw [mem_midSet]; simp)]
    iintro H
    iexact H
  · rw [dif_neg h]
    have e : homeSet k = midSet k := by
      ext i; have := i.isLt; simp only [mem_homeSet, mem_midSet]; omega
    rw [e]
    iintro H
    isplitr [H]
    · iempintro
    · iexact H

/-- After trip `k` its own block is home again. -/
theorem homes_in (k : ℕ) (hk : k < 32) : iprop(homeIf c XA k ∗ bigSep (midSet k) (homeP c XA)) ⊢ (bigSep (homeSet (k + 1)) (homeP c XA) : sProp 𝕄) := by
  unfold homeIf
  rw [dif_pos hk]
  have e : homeSet (k + 1) = insert ⟨k, hk⟩ (midSet k) := by
    ext i; simp only [Finset.mem_insert, mem_homeSet, mem_midSet, Fin.ext_iff]; omega
  rw [e, bigSep_insert (by rw [mem_midSet]; simp)]
  iintro H
  iexact H

/-- The ring before trip `k`: blocks `k` to `k + 2` on their way, the fourth slot free, every other block home. -/
def ringP (k : ℕ) : sProp 𝕄 :=
  iprop((∃ W, owes (c : Thread nD τ) 0 W) ∗ aheadP c XA k ∗ aheadP c XA (k + 1) ∗ aheadP c XA (k + 2) ∗ freeP c (sl (k + 3)) ∗ bigSep (homeSet k) (homeP c XA))

theorem sl_four (k : ℕ) : sl (k + 4) = sl k := Fin.ext (by show (k + 4) % 4 = k % 4; omega)

variable (X : Buf (Elt F) (xM.view.loc (c : Thread nD τ))) (CK : Buf (Elt F) (ckM.view.loc (c : Thread nD τ)))
  (CB : Buf (Elt F) (cbM.view.loc (c : Thread nD τ))) (DK : Buf (Elt F) (dkM.view.loc (c : Thread nD τ)))
  (DB : Buf (Elt F) (dbM.view.loc (c : Thread nD τ))) (LK : Buf (Elt F) (lkM.view.loc (c : Thread nD τ)))
  (LB : Buf (Elt F) (lbM.view.loc (c : Thread nD τ)))

/-- The main loop's invariant. -/
@[sl_loop, reducible] def mainInv (h1 h2 h3 h4 h5 h6 : BitVec 32) (init : BitVec 32 × BitVec 32 × BitVec 32 × BitVec 32 × BitVec 32 × BitVec 32) :
    LoopInvTy_k0_t2 (F := F) Unit ℕ (UU nD τ) ℕ 𝒱₀ c none Set.univ xM (Memref.isWhole_whole _) aM (Memref.isWhole_whole _) ckM (Memref.isWhole_whole _) cbM (Memref.isWhole_whole _) dkM (Memref.isWhole_whole _) dbM (Memref.isWhole_whole _) lkM (Memref.isWhole_whole _) lbM (Memref.isWhole_whole _) oM (Memref.isWhole_whole _) hM (Memref.isWhole_whole _) sM (Memref.isWhole_whole _) mM (Memref.isWhole_whole _) bufM (Memref.isWhole_whole _) cc0_scoped1 h1 h2 h3 h4 h5 h6 init where
  inv k acc := iprop(⌜acc = carry k⌝ ∗ readsP c X CK CB DK DB LK LB ∗ writesP c XA X CK CB DK DB LK LB k ∗ ringP c XA k)
  step k acc := by
    have hk : k.val < 32 := Nat.lt_of_lt_of_eq k.isLt trips2
    iintro ⟨%hacc, HR, HWr, HRing⟩
    subst hacc
    unfold ringP
    icases HRing with ⟨HW, H0, H1, H2, HF, HH⟩
    ihave HH' := (homes_out c XA k.val) $$ HH
    icases HH' with ⟨HN, HM⟩
    iapply (wp_wand_r Idealize.ShloMosaic.frame (wpE (defs₀ (F := F)) 𝒱₀ (c : Thread nD τ) none) Set.univ)
    isplitl [HR HWr HW H0 HF HN]
    · iapply (trip c XA X CK CB DK DB LK LB k h1 h2 h3 h4 h5 h6) $$ [HR HWr HW H0 HF HN]
      isplitl [HR]
      · iexact HR
      isplitl [HWr]
      · iexact HWr
      isplitl [HW]
      · iexact HW
      isplitl [H0]
      · iexact H0
      isplitl [HF]
      · iexact HF
      iexact HN
    iintro %r ⟨%hr, HR, HWr, HW, H3, HF, HN⟩
    isplitr [HR HWr HW H3 HF HN H1 H2 HM]
    · ipureintro
      exact hr
    isplitl [HR]
    · iexact HR
    isplitl [HWr]
    · iexact HWr
    isplitl [HW]
    · iexact HW
    isplitl [H1]
    · iexact H1
    isplitl [H2]
    · iexact H2
    isplitl [H3]
    · iexact H3
    isplitl [HF]
    · rw [show k.val + 1 + 3 = k.val + 4 from rfl, sl_four]
      iexact HF
    iapply (homes_in c XA k.val hk)
    isplitl [HN]
    · iexact HN
    iexact HM

/-- The main loop, at the head of a program. -/
theorem main_run (h1 h2 h3 h4 h5 h6 : BitVec 32) (init : BitVec 32 × BitVec 32 × BitVec 32 × BitVec 32 × BitVec 32 × BitVec 32) (hi : init = carry 0)
    {β : Type} (kk : (BitVec 32 × BitVec 32 × BitVec 32 × BitVec 32 × BitVec 32 × BitVec 32) → Prog (TpuEff nD τ sig (Elt F) (Λ₀ F) .tc) β) (Q : β → sProp 𝕄) :
    iprop(readsP c X CK CB DK DB LK LB ∗ writesP c XA X CK CB DK DB LK LB 0 ∗ ringP c XA 0)
      ⊢ iprop((∀ acc, (readsP c X CK CB DK DB LK LB ∗ writesP c XA X CK CB DK DB LK LB 32 ∗ ringP c XA 32)
          -∗ wp Idealize.ShloMosaic.frame (wpE (defs₀ (F := F)) 𝒱₀ (c : Thread nD τ) none) Set.univ (kk acc) Q)
        -∗ wp Idealize.ShloMosaic.frame (wpE (defs₀ (F := F)) 𝒱₀ (c : Thread nD τ) none) Set.univ
          (Scf.Loop.for k0_t2_loop k0_t2_ok init (k0_t2_body xM (Memref.isWhole_whole _) aM (Memref.isWhole_whole _) ckM (Memref.isWhole_whole _) cbM (Memref.isWhole_whole _) dkM (Memref.isWhole_whole _) dbM (Memref.isWhole_whole _) lkM (Memref.isWhole_whole _) lbM (Memref.isWhole_whole _) oM (Memref.isWhole_whole _) hM (Memref.isWhole_whole _) sM (Memref.isWhole_whole _) mM (Memref.isWhole_whole _) bufM (Memref.isWhole_whole _) cc0_scoped1 h1 h2 h3 h4 h5 h6) >>= kk) Q) := by
  have hl := exec_loop Idealize.ShloMosaic.frame (wpE (defs₀ (F := F)) 𝒱₀ (c : Thread nD τ) none) Set.univ k0_t2_loop.lb k0_t2_loop.ub k0_t2_loop.st k0_t2_ok init
    (k0_t2_body xM (Memref.isWhole_whole _) aM (Memref.isWhole_whole _) ckM (Memref.isWhole_whole _) cbM (Memref.isWhole_whole _) dkM (Memref.isWhole_whole _) dbM (Memref.isWhole_whole _) lkM (Memref.isWhole_whole _) lbM (Memref.isWhole_whole _) oM (Memref.isWhole_whole _) hM (Memref.isWhole_whole _) sM (Memref.isWhole_whole _) mM (Memref.isWhole_whole _) bufM (Memref.isWhole_whole _) cc0_scoped1 h1 h2 h3 h4 h5 h6) (mainInv c XA X CK CB DK DB LK LB h1 h2 h3 h4 h5 h6 init) (kk := kk) (Q := Q)
  have hl' : iprop(⌜init = carry 0⌝ ∗ readsP c X CK CB DK DB LK LB ∗ writesP c XA X CK CB DK DB LK LB 0 ∗ ringP c XA 0)
      ⊢ iprop((∀ acc, (⌜acc = carry k0_t2_loop.trips⌝ ∗ readsP c X CK CB DK DB LK LB ∗ writesP c XA X CK CB DK DB LK LB k0_t2_loop.trips ∗ ringP c XA k0_t2_loop.trips)
          -∗ wp Idealize.ShloMosaic.frame (wpE (defs₀ (F := F)) 𝒱₀ (c : Thread nD τ) none) Set.univ (kk acc) Q)
        -∗ wp Idealize.ShloMosaic.frame (wpE (defs₀ (F := F)) 𝒱₀ (c : Thread nD τ) none) Set.univ
          (Scf.Loop.for k0_t2_loop k0_t2_ok init (k0_t2_body xM (Memref.isWhole_whole _) aM (Memref.isWhole_whole _) ckM (Memref.isWhole_whole _) cbM (Memref.isWhole_whole _) dkM (Memref.isWhole_whole _) dbM (Memref.isWhole_whole _) lkM (Memref.isWhole_whole _) lbM (Memref.isWhole_whole _) oM (Memref.isWhole_whole _) hM (Memref.isWhole_whole _) sM (Memref.isWhole_whole _) mM (Memref.isWhole_whole _) bufM (Memref.isWhole_whole _) cc0_scoped1 h1 h2 h3 h4 h5 h6) >>= kk) Q) := hl
  have e : ∀ n, n = 32 → iprop(readsP c X CK CB DK DB LK LB ∗ writesP c XA X CK CB DK DB LK LB n ∗ ringP c XA n)
      ⊢ iprop(readsP c X CK CB DK DB LK LB ∗ writesP c XA X CK CB DK DB LK LB 32 ∗ ringP c XA 32) := by
    intro n hn; subst hn; exact .rfl
  iintro HA HK
  iapply hl' $$ [HA]
  · isplitr [HA]
    · ipureintro
      exact hi
    iexact HA
  iintro %acc ⟨-, HB⟩
  iapply HK
  iapply (e _ trips2)
  iexact HB

end Cert.Proof.Gcn

end
-- ==== Proof.Body.lean ====
/-
  The kernel's body at its one grid point: the eight graphs' features are transformed into the scratch, the first three
  blocks of the adjacency matrices are sent for, the main loop runs its thirty-two trips, and afterwards every block is
  home, every slot free and the eight rows of the result written.
-/
module

public import proofs.«01_k».proof.Proof.Loop

@[expose] public section

noncomputable section

namespace Cert.Proof.Gcn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (XA : Buf (Elt F) (aM.view.loc (c : Thread nD τ)))
variable (X : Buf (Elt F) (xM.view.loc (c : Thread nD τ))) (CK : Buf (Elt F) (ckM.view.loc (c : Thread nD τ)))
  (CB : Buf (Elt F) (cbM.view.loc (c : Thread nD τ))) (DK : Buf (Elt F) (dkM.view.loc (c : Thread nD τ)))
  (DB : Buf (Elt F) (dbM.view.loc (c : Thread nD τ))) (LK : Buf (Elt F) (lkM.view.loc (c : Thread nD τ)))
  (LB : Buf (Elt F) (lbM.view.loc (c : Thread nD τ)))

/-- All blocks home are the first three beside the rest; -/
theorem homes_start : (bigSep Finset.univ (homeP c XA) : sProp 𝕄) ⊢ iprop(homeP c XA 0 ∗ homeP c XA 1 ∗ homeP c XA 2 ∗ bigSep (homeSet 0) (homeP c XA)) := by
  have e : (Finset.univ : Finset (Fin 32)) = insert 0 (insert 1 (insert 2 (homeSet 0))) := by
    ext i; have := i.isLt; simp only [Finset.mem_univ, Finset.mem_insert, mem_homeSet, true_iff, Fin.ext_iff]
    show i.val = 0 ∨ i.val = 1 ∨ i.val = 2 ∨ _
    omega
  rw [e, bigSep_insert (by simp [mem_homeSet, Fin.ext_iff]), bigSep_insert (by simp [mem_homeSet, Fin.ext_iff]), bigSep_insert (by simp [mem_homeSet, Fin.ext_iff])]
  iintro H
  iexact H
/-- and after the last trip all are home. -/
theorem homes_end : homeSet 32 = (Finset.univ : Finset (Fin 32)) := by
  ext i; have := i.isLt; simp only [Finset.mem_univ, mem_homeSet, iff_true]; omega

/-- The four slots not in use. -/
def slotsP : sProp 𝕄 := iprop(freeP c (sl 0) ∗ freeP c (sl 1) ∗ freeP c (sl 2) ∗ freeP c (sl 3))

/-- After the last trip the ring is at rest. -/
theorem ring_end : ringP c XA 32 ⊢ iprop((∃ W, owes (c : Thread nD τ) 0 W) ∗ slotsP c ∗ bigSep Finset.univ (homeP c XA)) := by
  unfold ringP aheadP slotsP
  rw [homes_end, dif_neg (by omega), dif_neg (by omega), dif_neg (by omega)]
  rw [show sl 32 = sl 0 from rfl, show sl (32 + 1) = sl 1 from rfl, show sl (32 + 2) = sl 2 from rfl, show sl (32 + 3) = sl 3 from rfl]
  iintro ⟨HW, H0, H1, H2, H3, HH⟩
  isplitl [HW]
  · iexact HW
  isplitl [H0 H1 H2 H3]
  · isplitl [H0]
    · iexact H0
    isplitl [H1]
    · iexact H1
    isplitl [H2]
    · iexact H2
    iexact H3
  iexact HH

/-- With the first three blocks on their way, the ring is as before trip 0. -/
theorem ring_start (f0 f1 f2) :
    iprop((∃ W, owes (c : Thread nD τ) 0 W) ∗ flightP c XA (sl 0) ⟨0, by decide⟩ f0 ∗ flightP c XA (sl 1) ⟨1, by decide⟩ f1 ∗ flightP c XA (sl 2) ⟨2, by decide⟩ f2
      ∗ freeP c (sl 3) ∗ bigSep (homeSet 0) (homeP c XA)) ⊢ ringP c XA 0 := by
  unfold ringP aheadP
  rw [dif_pos (by decide), dif_pos (by decide), dif_pos (by decide)]
  iintro ⟨HW, H0, H1, H2, H3, HH⟩
  isplitl [HW]
  · iexact HW
  isplitl [H0]
  · iexists f0
    iexact H0
  isplitl [H1]
  · iexists f1
    iexact H1
  isplitl [H2]
  · iexists f2
    iexact H2
  isplitl [H3]
  · iexact H3
  iexact HH

/-- Nothing is accumulated and no row written before trip 0. -/
theorem writes_start (fs fm fo) : iprop(own c sM fs ∗ own c mM fm ∗ own c oM fo) ⊢ writesP c XA X CK CB DK DB LK LB 0 := by
  unfold writesP
  iintro ⟨HS, HM, HO⟩
  isplitl [HS HM]
  · iexists fs
    iexists fm
    isplitr [HS HM]
    · ipureintro
      exact fun h => absurd rfl h
    isplitl [HS]
    · iexact HS
    iexact HM
  iexists fo
  isplitr [HO]
  · ipureintro
    intro b hb
    exact absurd hb (by simp)
  iexact HO

/-- What the body is handed. -/
def bodyPre : sProp 𝕄 :=
  iprop(own c xM X ∗ own c ckM CK ∗ own c cbM CB ∗ own c dkM DK ∗ own c dbM DB ∗ own c lkM LK ∗ own c lbM LB
    ∗ (∃ f, own c oM f) ∗ (∃ f, own c hM f) ∗ (∃ f, own c sM f) ∗ (∃ f, own c mM f)
    ∗ slotsP c ∗ bigSep Finset.univ (homeP c XA) ∗ ∃ W, owes (c : Thread nD τ) 0 W)
/-- What it hands back: the same, the eight rows written. -/
def bodyPost : sProp 𝕄 :=
  iprop(own c xM X ∗ own c ckM CK ∗ own c cbM CB ∗ own c dkM DK ∗ own c dbM DB ∗ own c lkM LK ∗ own c lbM LB
    ∗ (∃ f, ⌜∀ b : Fin 8, readO c f b = outV c XA X CK CB DK DB LK LB b⌝ ∗ own c oM f) ∗ (∃ f, own c hM f) ∗ (∃ f, own c sM f) ∗ (∃ f, own c mM f)
    ∗ slotsP c ∗ bigSep Finset.univ (homeP c XA) ∗ ∃ W, owes (c : Thread nD τ) 0 W)

theorem bodyRun (Q : PUnit → sProp 𝕄) :
    iprop(bodyPre c XA X CK CB DK DB LK LB ∗ (bodyPost c XA X CK CB DK DB LK LB -∗ Q ⟨⟩))
      ⊢ wp frame (wpE (defs₀ (F := F)) 𝒱₀ (c : Thread nD τ) none) Set.univ (cc0__body xM (Memref.isWhole_whole _) aM (Memref.isWhole_whole _) ckM (Memref.isWhole_whole _) cbM (Memref.isWhole_whole _) dkM (Memref.isWhole_whole _) dbM (Memref.isWhole_whole _) lkM (Memref.isWhole_whole _) lbM (Memref.isWhole_whole _) oM (Memref.isWhole_whole _) hM (Memref.isWhole_whole _) sM (Memref.isWhole_whole _) mM (Memref.isWhole_whole _) bufM (Memref.isWhole_whole _) cc0_scoped1) Q := by
  unfold bodyPre slotsP freeP
  iintro ⟨⟨HX, HCK, HCB, HDK, HDB, HLK, HLB, ⟨%fo, HO⟩, ⟨%fh, HH⟩, ⟨%fs, HS⟩, ⟨%fm, HM⟩, ⟨⟨HC0, ⟨%f0, HS0⟩⟩, ⟨HC1, ⟨%f1, HS1⟩⟩, ⟨HC2, ⟨%f2, HS2⟩⟩, HF3⟩, HHome, ⟨%W, HW⟩⟩, HK⟩
  ihave HHome' := (homes_start c XA) $$ HHome
  icases HHome' with ⟨Hb0, Hb1, Hb2, HHome⟩
  sl_exec
  iapply (wp_call 𝒱₀ (c : Thread nD τ) none Set.univ 1 (fun u hu => nomatch hu))
  iapply (while1_step c XA 0 rfl (by decide) f1)
  isplitl [HW]
  · iexists _
    iexact HW
  isplitl [HC1]
  · iexact HC1
  isplitl [HS1]
  · iexact HS1
  isplitl [Hb1]
  · iexact Hb1
  iintro ⟨%W1, HW⟩ HA1
  sl_exec
  iapply (wp_call 𝒱₀ (c : Thread nD τ) none Set.univ 1 (fun u hu => nomatch hu))
  iapply (while2_step c XA 1 (by decide) f2)
  isplitl [HW]
  · iexists _
    iexact HW
  isplitl [HC2]
  · iexact HC2
  isplitl [HS2]
  · iexact HS2
  isplitl [Hb2]
  · iexact Hb2
  iintro ⟨%W2, HW⟩ HA2
  ihave HR := (show iprop(own c xM X ∗ own c cbM CB ∗ own c dkM DK ∗ own c dbM DB ∗ own c lkM LK ∗ own c lbM LB ∗ own c hM fL0) ⊢ readsP c X CK CB DK DB LK LB from by
    unfold readsP
    iintro ⟨HX, HCB, HDK, HDB, HLK, HLB, HH⟩
    isplitl [HX]
    · iexact HX
    isplitl [HCB]
    · iexact HCB
    isplitl [HDK]
    · iexact HDK
    isplitl [HDB]
    · iexact HDB
    isplitl [HLK]
    · iexact HLK
    isplitl [HLB]
    · iexact HLB
    iexists fL0
    isplitr [HH]
    · ipureintro
      exact fun b => hL2 b b.isLt
    iexact HH) $$ [HX HCB HDK HDB HLK HLB HH]
  · isplitl [HX]
    · iexact HX
    isplitl [HCB]
    · iexact HCB
    isplitl [HDK]
    · iexact HDK
    isplitl [HDB]
    · iexact HDB
    isplitl [HLK]
    · iexact HLK
    isplitl [HLB]
    · iexact HLB
    iexact HH
  ihave HWr := (writes_start c XA X CK CB DK DB LK LB fs fm fo) $$ [HS HM HO]
  · isplitl [HS]
    · iexact HS
    isplitl [HM]
    · iexact HM
    iexact HO
  ihave HRing := (ring_start c XA f0 f1 f2) $$ [HW HC0 HA1 HA2 HF3 HHome]
  · isplitl [HW]
    · iexists W2
      iexact HW
    isplitl [HC0]
    · iexact HC0
    isplitl [HA1]
    · iexact HA1
    isplitl [HA2]
    · iexact HA2
    isplitl [HF3]
    · unfold freeP
      iexact HF3
    iexact HHome
  sl_exec
  iapply (main_run c XA X CK CB DK DB LK LB 0#32 2#32 3#32 0#32 0#32 0#32 (3#32, 0#32, 0#32, 2#32, 0#32, 0#32) (by decide)) $$ [HR HWr HRing]
  · isplitl [HR]
    · iexact HR
    isplitl [HWr]
    · iexact HWr
    iexact HRing
  iintro %acc ⟨HR, HWr, HRing⟩
  ihave HRing' := (ring_end c XA) $$ HRing
  icases HRing' with ⟨HW, HSl, HHome⟩
  sl_exec
  sl_step
  iapply HK
  unfold bodyPost readsP writesP
  icases HR with ⟨HX, HCB, HDK, HDB, HLK, HLB, ⟨%fh', -, HH⟩⟩
  icases HWr with ⟨⟨%fs', %fm', -, HS, HM⟩, ⟨%fo', %hfo, HO⟩⟩
  isplitl [HX]
  · iexact HX
  isplitl [HCK]
  · iexact HCK
  isplitl [HCB]
  · iexact HCB
  isplitl [HDK]
  · iexact HDK
  isplitl [HDB]
  · iexact HDB
  isplitl [HLK]
  · iexact HLK
  isplitl [HLB]
  · iexact HLB
  isplitl [HO]
  · iexists fo'
    isplitr [HO]
    · ipureintro
      exact fun b => hfo b b.isLt
    iexact HO
  isplitl [HH]
  · iexists fh'
    iexact HH
  isplitl [HS]
  · iexists fs'
    iexact HS
  isplitl [HM]
  · iexists fm'
    iexact HM
  isplitl [HSl]
  · iexact HSl
  isplitl [HHome]
  · iexact HHome
  iexact HW

end Cert.Proof.Gcn

end
-- ==== Proof.Launch.lean ====
/-
  The launch: the three biases are reshaped, the region runs its one grid point, and the result is reshaped.  The region's
  arrays and its own buffers are handed to the body and taken back.
-/
module

public import proofs.«01_k».proof.Proof.Body

@[expose] public section

noncomputable section

namespace Cert.Proof.Gcn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

open Idealize.ShloMosaic.Pipeline (Dat Cfg BodyObligation)

/-! ## The blocks of the adjacency matrices and the slots of the buffer -/

/-- Block `i`'s elements. -/
abbrev blkSet (i : Fin 32) : Finset S8x2048x2048.Idx := (Rect.unit (s := S8x2048x2048) (blkOff i) S1x512x2048.size (blkOff_inb i)).set
/-- Slot `s`'s elements. -/
abbrev slotSet (s : Fin 4) : Finset S4x1x512x2048.Idx := (Rect.unit (s := S4x1x512x2048) (slotOff s) S1x1x512x2048.size (slotOff_inb s)).set

theorem blk_set (i : Fin 32) : (blk i : Memref sig .tc .hbm _ _).view.set = blkSet i := View.set_slice_whole _ _
theorem slot_set (s : Fin 4) : (slot s : Memref sig .tc .vmem _ _).view.set = slotSet s := (View.set_reshape _ _).trans (View.set_slice_whole _ _)

theorem mem_blkSet (i : Fin 32) (y : S8x2048x2048.Idx) : y ∈ blkSet i ↔ 4 * (y 0).val + (y 1).val / 512 = i.val := by
  rw [Rect.mem_set_unit]
  have h0 : (y 0).val < 8 := (y 0).isLt
  have h1 : (y 1).val < 2048 := (y 1).isLt
  have h2 : (y 2).val < 2048 := (y 2).isLt
  constructor
  · intro H
    have a0 : i.val / 4 ≤ (y 0).val ∧ (y 0).val < i.val / 4 + 1 := H 0
    have a1 : 512 * (i.val % 4) ≤ (y 1).val ∧ (y 1).val < 512 * (i.val % 4) + 512 := H 1
    omega
  · intro H a
    fin_cases a
    · show i.val / 4 ≤ (y 0).val ∧ (y 0).val < i.val / 4 + 1; omega
    · show 512 * (i.val % 4) ≤ (y 1).val ∧ (y 1).val < 512 * (i.val % 4) + 512; omega
    · show 0 ≤ (y 2).val ∧ (y 2).val < 0 + 2048; omega
theorem mem_slotSet (s : Fin 4) (y : S4x1x512x2048.Idx) : y ∈ slotSet s ↔ (y 0).val = s.val := by
  rw [Rect.mem_set_unit]
  have h1 : (y 1).val < 1 := (y 1).isLt
  have h2 : (y 2).val < 512 := (y 2).isLt
  have h3 : (y 3).val < 2048 := (y 3).isLt
  constructor
  · intro H
    have a0 : s.val ≤ (y 0).val ∧ (y 0).val < s.val + 1 := H 0
    omega
  · intro H a
    fin_cases a
    · show s.val ≤ (y 0).val ∧ (y 0).val < s.val + 1; omega
    · show 0 ≤ (y 1).val ∧ (y 1).val < 0 + 1; omega
    · show 0 ≤ (y 2).val ∧ (y 2).val < 0 + 512; omega
    · show 0 ≤ (y 3).val ∧ (y 3).val < 0 + 2048; omega

theorem blkSet_disjoint : ∀ i j : Fin 32, i ≠ j → Disjoint (blkSet i) (blkSet j) := by
  intro i j hne
  rw [Finset.disjoint_left]
  intro y hy hy'
  rw [mem_blkSet] at hy hy'
  exact hne (Fin.ext (hy.symm.trans hy'))
theorem blkSet_cover : (Finset.univ : Finset (Fin 32)).biUnion blkSet = Finset.univ := by
  ext y
  have h0 : (y 0).val < 8 := (y 0).isLt
  have h1 : (y 1).val < 2048 := (y 1).isLt
  simp only [Finset.mem_biUnion, Finset.mem_univ, true_and, iff_true]
  exact ⟨⟨4 * (y 0).val + (y 1).val / 512, by omega⟩, by rw [mem_blkSet]⟩
theorem slotSet_disjoint : ∀ s t : Fin 4, s ≠ t → Disjoint (slotSet s) (slotSet t) := by
  intro s t hne
  rw [Finset.disjoint_left]
  intro y hy hy'
  rw [mem_slotSet] at hy hy'
  exact hne (Fin.ext (hy.symm.trans hy'))
theorem slotSet_cover : (Finset.univ : Finset (Fin 4)).biUnion slotSet = Finset.univ := by
  ext y
  simp only [Finset.mem_biUnion, Finset.mem_univ, true_and, iff_true]
  exact ⟨(y 0).cast (by decide), by rw [mem_slotSet]; rfl⟩

variable (c : Dev nD)

/-- The adjacency matrices whole are their thirty-two blocks home. -/
theorem a_eq (XA : Buf (Elt F) (aM.view.loc (c : Thread nD τ))) :
    (((c : Thread nD τ).loc main_arg1) ↦{fullShare} XA : sProp 𝕄) = bigSep Finset.univ (homeP c XA) := by
  rw [Ring.pointsTo_blocks (ℓ := (c : Thread nD τ).loc main_arg1) blkSet blkSet_disjoint blkSet_cover]
  exact bigSep_congr fun b _ => by rw [← blk_set]; rfl

/-- A conjunction over the four slots. -/
theorem bigSep_four (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

theorem slotP_eq (s : Fin 4) (f) : slotP c s f = (((c : Thread nD τ).loc cc0_scoped0) ↦[slotSet s]{fullShare} f : sProp 𝕄) :=
  congrArg (fun S => (_ ↦[S]{fullShare} f : sProp 𝕄)) (slot_set s)

/-- The kernel's own semaphores: the four slots' cells. -/
abbrev osem : Fin 4 → SemLoc sig := fun s => .dma (csem s).sem
theorem ownSemFacts : Pipeline.OwnSemFacts spec0 osem := by decide
theorem ownSems0_eq : (Pipeline.ownSems0 (Ix := Unit) (Name := ℕ) (U := UU nD τ) (Lvl := ℕ) (Val := Elt F) (τ := τ) osem c : sProp 𝕄)
    = iprop(cellP c 0 ∗ cellP c 1 ∗ cellP c 2 ∗ cellP c 3) := by
  unfold Pipeline.ownSems0
  rw [bigSep_four]

/-- The buffer whole, with its cells, is the four slots not in use; -/
theorem slots_split :
    iprop((∃ f : Buf (Elt F) ((c : Thread nD τ).loc cc0_scoped0), ((c : Thread nD τ).loc cc0_scoped0) ↦{fullShare} f)
      ∗ (Pipeline.ownSems0 (Ix := Unit) (Name := ℕ) (U := UU nD τ) (Lvl := ℕ) (Val := Elt F) (τ := τ) osem c : sProp 𝕄)) ⊢ (slotsP c : sProp 𝕄) := by
  rw [ownSems0_eq]
  iintro ⟨⟨%f, H⟩, HC0, HC1, HC2, HC3⟩
  ihave H2 := (Entails.of_eq ((Ring.pointsTo_blocks (Ix := Unit) (Name := ℕ) (U := UU nD τ) (Lvl := ℕ) (q := fullShare) (ℓ := (c : Thread nD τ).loc cc0_scoped0) slotSet slotSet_disjoint slotSet_cover f).trans (bigSep_four _))) $$ H
  icases H2 with ⟨H0, H1, H2, H3⟩
  unfold slotsP freeP
  isplitl [HC0 H0]
  · isplitl [HC0]
    · iexact HC0
    iexists f
    iapply (Entails.of_eq (slotP_eq c 0 f).symm)
    iexact H0
  isplitl [HC1 H1]
  · isplitl [HC1]
    · iexact HC1
    iexists f
    iapply (Entails.of_eq (slotP_eq c 1 f).symm)
    iexact H1
  isplitl [HC2 H2]
  · isplitl [HC2]
    · iexact HC2
    iexists f
    iapply (Entails.of_eq (slotP_eq c 2 f).symm)
    iexact H2
  isplitl [HC3]
  · iexact HC3
  iexists f
  iapply (Entails.of_eq (slotP_eq c 3 f).symm)
  iexact H3
/-- and back. -/
theorem slots_join :
    (slotsP c : sProp 𝕄) ⊢ iprop((∃ f : Buf (Elt F) ((c : Thread nD τ).loc cc0_scoped0), ((c : Thread nD τ).loc cc0_scoped0) ↦{fullShare} f)
      ∗ (Pipeline.ownSems0 (Ix := Unit) (Name := ℕ) (U := UU nD τ) (Lvl := ℕ) (Val := Elt F) (τ := τ) osem c : sProp 𝕄)) := by
  rw [ownSems0_eq]
  unfold slotsP freeP
  iintro ⟨⟨HC0, ⟨%f0, H0⟩⟩, ⟨HC1, ⟨%f1, H1⟩⟩, ⟨HC2, ⟨%f2, H2⟩⟩, HC3, ⟨%f3, H3⟩⟩
  isplitr [HC0 HC1 HC2 HC3]
  · iapply (Ring.pointsTo_blocks_join_exists (ℓ := (c : Thread nD τ).loc cc0_scoped0) slotSet slotSet_disjoint slotSet_cover f0)
    irw [bigSep_four]
    isplitl [H0]
    · iexists f0
      iapply (Entails.of_eq (slotP_eq c 0 f0))
      iexact H0
    isplitl [H1]
    · iexists f1
      iapply (Entails.of_eq (slotP_eq c 1 f1))
      iexact H1
    isplitl [H2]
    · iexists f2
      iapply (Entails.of_eq (slotP_eq c 2 f2))
      iexact H2
    iexists f3
    iapply (Entails.of_eq (slotP_eq c 3 f3))
    iexact H3
  isplitl [HC0]
  · iexact HC0
  isplitl [HC1]
  · iexact HC1
  isplitl [HC2]
  · iexact HC2
  iexact HC3

/-! ## The region's data -/

variable (m : (ℓ : Loc nD τ sig) → Buf (Elt F) ℓ) (ρ : Dev nD → PrngReg)

/-- What every buffer holds when the region is entered: the launch contents after the three reshapes. -/
abbrev V0 : Valuation τ sig (Elt F) := StableHlo.after hostOps0 (fun b => m (c, b))
/-- The adjacency matrices. -/
abbrev XA : Buf (Elt F) (aM.view.loc (c : Thread nD τ)) := V0 c m (Proc.devRef .tc main_arg1)

/-- Window `w`'s block at point `t`, read off its array at the region's entry. -/
def iblk (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V0 c m (Proc.devRef .tc (Pipeline.arrRef spec0 w)))

/-- The staging buffers' contents. -/
abbrev X0 : Buf (Elt F) (xM.view.loc (c : Thread nD τ)) := (st0_0 (F := F) t0_0).view.rep (iblk c m 0 t0_0)
abbrev X1 : Buf (Elt F) (ckM.view.loc (c : Thread nD τ)) := (st0_1 (F := F) t0_0).view.rep (iblk c m 1 t0_0)
abbrev X2 : Buf (Elt F) (cbM.view.loc (c : Thread nD τ)) := (st0_2 (F := F) t0_0).view.rep (iblk c m 2 t0_0)
abbrev X3 : Buf (Elt F) (dkM.view.loc (c : Thread nD τ)) := (st0_3 (F := F) t0_0).view.rep (iblk c m 3 t0_0)
abbrev X4 : Buf (Elt F) (dbM.view.loc (c : Thread nD τ)) := (st0_4 (F := F) t0_0).view.rep (iblk c m 4 t0_0)
abbrev X5 : Buf (Elt F) (lkM.view.loc (c : Thread nD τ)) := (st0_5 (F := F) t0_0).view.rep (iblk c m 5 t0_0)
abbrev X6 : Buf (Elt F) (lbM.view.loc (c : Thread nD τ)) := (st0_6 (F := F) t0_0).view.rep (iblk c m 6 t0_0)

/-- Graph `b`'s row of the result. -/
abbrev rowV (b : Fin 8) : Vec F S1x1x128 .f32 := outV c (XA c m) (X0 c m) (X1 c m) (X2 c m) (X3 c m) (X4 c m) (X5 c m) (X6 c m) b
/-- An entry of the result, within its graph's row. -/
def inRow (y : S8x1x128.Idx) : S1x1x128.Idx := fun a =>
  ⟨if a = 0 then 0 else (y a).val, by
    have h1 : (y 1).val < 1 := (y 1).isLt
    have h2 : (y 2).val < 128 := (y 2).isLt
    fin_cases a
    · exact Nat.one_pos
    · exact h1
    · exact h2⟩
/-- The region's result. -/
def outBlk : Vec F S8x1x128 .f32 := fun y => rowV c m ((y 0).cast (by decide)) (inRow y)

/-- The eight rows are the whole result. -/
theorem outBlk_read (f : Buf (Elt F) (oM.view.loc (c : Thread nD τ))) (h : ∀ b : Fin 8, readO c f b = rowV c m b) : oM.view.read (Elt F) f = outBlk c m := by
  funext y
  unfold outBlk
  rw [← h]
  unfold readO
  rw [View.readAt_apply]
  refine congrArg _ ?_
  funext a
  apply Fin.ext
  have h1 : (y 1).val < 1 := (y 1).isLt
  fin_cases a
  · show (y 0).val = (y 0).val + 1 * 0; omega
  · show (y 1).val = 0 + 1 * (y 1).val; omega
  · show (y 2).val = 0 + 1 * (y 2).val; omega

/-- The region's invariant, the same before and after its one point: every block home, the slots free, the three
    scratch buffers at anything. -/
def Φ : sProp 𝕄 := iprop(bigSep Finset.univ (homeP c (XA c m)) ∗ slotsP c ∗ (∃ f, own c hM f) ∗ (∃ f, own c sM f) ∗ (∃ f, own c mM f))

/-- What the region finds in its arrays, and what its body leaves in the staging buffers. -/
def dats (_ : Fin 1) (c : Dev nD) : Dat τ (Elt F) Unit ℕ (UU nD τ) ℕ (cfg0 (F := F)) c where
  A w := V0 c m (Proc.devRef .tc (Pipeline.arrRef spec0 w))
  after w t := match w with
    | ⟨0, _⟩ => iblk c m 0 t
    | ⟨1, _⟩ => iblk c m 1 t
    | ⟨2, _⟩ => iblk c m 2 t
    | ⟨3, _⟩ => iblk c m 3 t
    | ⟨4, _⟩ => iblk c m 4 t
    | ⟨5, _⟩ => iblk c m 5 t
    | ⟨6, _⟩ => iblk c m 6 t
    | ⟨7, _⟩ => outBlk c m
    | ⟨n + 8, h⟩ => absurd h (Nat.not_lt.2 (Nat.le_add_left _ _))
  Φ _ := Φ c m
  q _ := fullShare
  owed _ := 0

theorem before_w0 (t : Fin (cfg0 (F := F)).N) (d) : (dats m 0 c).before 0 t d = iblk c m 0 t := by
  unfold Dat.before; rw [if_pos (fetch0_0 t)]; unfold Dat.fetched Dat.blockOf iblk; dsimp only [dats]; rfl
theorem after_w0 (t : Fin (cfg0 (F := F)).N) : (dats m 0 c).after 0 t = iblk c m 0 t := rfl
theorem before_w1 (t : Fin (cfg0 (F := F)).N) (d) : (dats m 0 c).before 1 t d = iblk c m 1 t := by
  unfold Dat.before; rw [if_pos (fetch0_1 t)]; unfold Dat.fetched Dat.blockOf iblk; dsimp only [dats]; rfl
theorem after_w1 (t : Fin (cfg0 (F := F)).N) : (dats m 0 c).after 1 t = iblk c m 1 t := rfl
theorem before_w2 (t : Fin (cfg0 (F := F)).N) (d) : (dats m 0 c).before 2 t d = iblk c m 2 t := by
  unfold Dat.before; rw [if_pos (fetch0_2 t)]; unfold Dat.fetched Dat.blockOf iblk; dsimp only [dats]; rfl
theorem after_w2 (t : Fin (cfg0 (F := F)).N) : (dats m 0 c).after 2 t = iblk c m 2 t := rfl
theorem before_w3 (t : Fin (cfg0 (F := F)).N) (d) : (dats m 0 c).before 3 t d = iblk c m 3 t := by
  unfold Dat.before; rw [if_pos (fetch0_3 t)]; unfold Dat.fetched Dat.blockOf iblk; dsimp only [dats]; rfl
theorem after_w3 (t : Fin (cfg0 (F := F)).N) : (dats m 0 c).after 3 t = iblk c m 3 t := rfl
theorem before_w4 (t : Fin (cfg0 (F := F)).N) (d) : (dats m 0 c).before 4 t d = iblk c m 4 t := by
  unfold Dat.before; rw [if_pos (fetch0_4 t)]; unfold Dat.fetched Dat.blockOf iblk; dsimp only [dats]; rfl
theorem after_w4 (t : Fin (cfg0 (F := F)).N) : (dats m 0 c).after 4 t = iblk c m 4 t := rfl
theorem before_w5 (t : Fin (cfg0 (F := F)).N) (d) : (dats m 0 c).before 5 t d = iblk c m 5 t := by
  unfold Dat.before; rw [if_pos (fetch0_5 t)]; unfold Dat.fetched Dat.blockOf iblk; dsimp only [dats]; rfl
theorem after_w5 (t : Fin (cfg0 (F := F)).N) : (dats m 0 c).after 5 t = iblk c m 5 t := rfl
theorem before_w6 (t : Fin (cfg0 (F := F)).N) (d) : (dats m 0 c).before 6 t d = iblk c m 6 t := by
  unfold Dat.before; rw [if_pos (fetch0_6 t)]; unfold Dat.fetched Dat.blockOf iblk; dsimp only [dats]; rfl
theorem after_w6 (t : Fin (cfg0 (F := F)).N) : (dats m 0 c).after 6 t = iblk c m 6 t := rfl
theorem after_w7 (t : Fin (cfg0 (F := F)).N) : (dats m 0 c).after 7 t = outBlk c m := rfl

/-- The region's body is the kernel on the staging buffers. -/
theorem defs_tc : (defs₀ (F := F)) .tc (cfg0 (F := F)).body
    = fun a => cc0__body (win0_0.stage (a.2 0)) (hstage0_0 0) aM (Memref.isWhole_whole _) (win0_1.stage (a.2 1)) (hstage0_1 0) (win0_2.stage (a.2 2)) (hstage0_2 0) (win0_3.stage (a.2 3)) (hstage0_3 0) (win0_4.stage (a.2 4)) (hstage0_4 0) (win0_5.stage (a.2 5)) (hstage0_5 0) (win0_6.stage (a.2 6)) (hstage0_6 0) (win0_7.stage (a.2 7)) (hstage0_7 0) hM (Memref.isWhole_whole _) sM (Memref.isWhole_whole _) mM (Memref.isWhole_whole _) bufM (Memref.isWhole_whole _) cc0_scoped1 := rfl
theorem prog_eq (t : Fin (cfg0 (F := F)).N) : (defs₀ (F := F)) .tc (cfg0 (F := F)).body ((cfg0 (F := F)).bodyArgs t ((cfg0 (F := F)).slots t)) = cc0__body xM (Memref.isWhole_whole _) aM (Memref.isWhole_whole _) ckM (Memref.isWhole_whole _) cbM (Memref.isWhole_whole _) dkM (Memref.isWhole_whole _) dbM (Memref.isWhole_whole _) lkM (Memref.isWhole_whole _) lbM (Memref.isWhole_whole _) oM (Memref.isWhole_whole _) hM (Memref.isWhole_whole _) sM (Memref.isWhole_whole _) mM (Memref.isWhole_whole _) bufM (Memref.isWhole_whole _) cc0_scoped1 :=
  (congrFun defs_tc _).trans rfl

set_option backward.isDefEq.respectTransparency.types false in
set_option maxHeartbeats 600000 in
/-- The region's body at its one point. -/
theorem body_obligation : BodyObligation (dats (F := F) m 0 c) (defs₀ (F := F)) 𝒱₀ () Set.univ := fun t => by
  obtain rfl := fin_N0 t
  rw [bigSep_W0, bigSep_W0]
  dsimp only
  simp only [before_w0, after_w0, before_w1, after_w1, before_w2, after_w2, before_w3, after_w3, before_w4, after_w4, before_w5, after_w5, before_w6, after_w6, after_w7]
  rw [show (dats m 0 c).Φ (t0_0 : Fin (cfg0 (F := F)).N).castSucc = Φ c m from rfl, show (dats m 0 c).Φ (t0_0 : Fin (cfg0 (F := F)).N).succ = Φ c m from rfl]
  unfold Dat.owesAt Pipeline.owesWithin
  rw [show (dats m 0 c).owed (t0_0 : Fin (cfg0 (F := F)).N).castSucc = 0 from rfl, show (dats m 0 c).owed (t0_0 : Fin (cfg0 (F := F)).N).succ = 0 from rfl]
  unfold owns Φ
  iintro ⟨⟨HHome, HSl, HH, HS, HM⟩, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %g7, -, HO⟩⟩
  ihave K0 := (pointsTo_rep_entails (c : Thread nD τ) (stage0_0 0) g0 fullShare) $$ H0
  ihave K1 := (pointsTo_rep_entails (c : Thread nD τ) (stage0_1 0) g1 fullShare) $$ H1
  ihave K2 := (pointsTo_rep_entails (c : Thread nD τ) (stage0_2 0) g2 fullShare) $$ H2
  ihave K3 := (pointsTo_rep_entails (c : Thread nD τ) (stage0_3 0) g3 fullShare) $$ H3
  ihave K4 := (pointsTo_rep_entails (c : Thread nD τ) (stage0_4 0) g4 fullShare) $$ H4
  ihave K5 := (pointsTo_rep_entails (c : Thread nD τ) (stage0_5 0) g5 fullShare) $$ H5
  ihave K6 := (pointsTo_rep_entails (c : Thread nD τ) (stage0_6 0) g6 fullShare) $$ H6
  rw [hg0, hg1, hg2, hg3, hg4, hg5, hg6]
  sl_rw [prog_eq t0_0]
  iapply (bodyRun c (XA c m) (X0 c m) (X1 c m) (X2 c m) (X3 c m) (X4 c m) (X5 c m) (X6 c m))
  isplitl [HHome HSl HH HS HM HW K0 K1 K2 K3 K4 K5 K6 HO]
  · unfold bodyPre
    isplitl [K0]
    · iexact K0
    isplitl [K1]
    · iexact K1
    isplitl [K2]
    · iexact K2
    isplitl [K3]
    · iexact K3
    isplitl [K4]
    · iexact K4
    isplitl [K5]
    · iexact K5
    isplitl [K6]
    · iexact K6
    isplitl [HO]
    · iexists g7
      iexact HO
    isplitl [HH]
    · iexact HH
    isplitl [HS]
    · iexact HS
    isplitl [HM]
    · iexact HM
    isplitl [HSl]
    · iexact HSl
    isplitl [HHome]
    · iexact HHome
    iexists W
    iexact HW
  · unfold bodyPost
    iintro ⟨K0, K1, K2, K3, K4, K5, K6, ⟨%fo, %hfo, HO⟩, HH, HS, HM, HSl, HHome, ⟨%W', HW⟩⟩
    isplitl [HHome HSl HH HS HM]
    · isplitl [HHome]
      · iexact HHome
      isplitl [HSl]
      · iexact HSl
      isplitl [HH]
      · iexact HH
      isplitl [HS]
      · iexact HS
      iexact HM
    isplitl [HW]
    · iexists W'
      isplitr [HW]
      · ipureintro
        exact fun _ _ => Or.inl trivial
      iexact HW
    isplitl [K0]
    · iexists _
      isplitr [K0]
      rotate_left
      · iexact K0
      · ipureintro
        exact View.read_rep _ _
    isplitl [K1]
    · iexists _
      isplitr [K1]
      rotate_left
      · iexact K1
      · ipureintro
        exact View.read_rep _ _
    isplitl [K2]
    · iexists _
      isplitr [K2]
      rotate_left
      · iexact K2
      · ipureintro
        exact View.read_rep _ _
    isplitl [K3]
    · iexists _
      isplitr [K3]
      rotate_left
      · iexact K3
      · ipureintro
        exact View.read_rep _ _
    isplitl [K4]
    · iexists _
      isplitr [K4]
      rotate_left
      · iexact K4
      · ipureintro
        exact View.read_rep _ _
    isplitl [K5]
    · iexists _
      isplitr [K5]
      rotate_left
      · iexact K5
      · ipureintro
        exact View.read_rep _ _
    isplitl [K6]
    · iexists _
      isplitr [K6]
      rotate_left
      · iexact K6
      · ipureintro
        exact View.read_rep _ _
    iexists fo
    isplitr [HO]
    · ipureintro
      exact outBlk_read c m fo hfo
    iexact HO

end Cert.Proof.Gcn

end
-- ==== Proof.Run.lean ====
/-
  The kernel's run: every weakly fair execution terminates, with the region's arrays and the buffers beside them as
  named, the arguments as they were and every semaphore counter at zero.
-/
module

public import proofs.«01_k».proof.Proof.Launch
public import Idealize.ShloMosaic.Lib.Pipeline.FrameSuffixV
public import Idealize.ShloMosaic.Lib.StableHlo.RunRead

@[expose] public section

noncomputable section

namespace Cert.Proof.Gcn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

open Idealize.ShloMosaic.Pipeline (Dat Cfg BodyObligation)

variable (c : Dev nD) (m : (ℓ : Loc nD τ sig) → Buf (Elt F) ℓ) (ρ : Dev nD → PrngReg)

/-! ## The run -/

theorem sfx_sub : ∀ ops ∈ ([hostOps1] : List (List (HloOp τ sig (Elt F)))), ∀ op ∈ ops, op.bufs ⊆ Pipeline.tailRefs sig Pipeline.Prefetch.none spec0 := by
  rw [Pipeline.tailRefs_none spec0 (launch0 (F := F)).win.arr_unscoped]
  intro ops hops op hop
  rw [List.mem_singleton] at hops
  subst hops
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  rw [List.mem_singleton] at hops
  subst hops
  rw [List.mem_singleton] at hop
  subst hop
  rfl
theorem sfx_keeps : ∀ ops ∈ ([hostOps1] : List (List (HloOp τ sig (Elt F)))), ∀ op ∈ ops, ∀ w, Proc.devRef .tc (Pipeline.arrRef spec0 w) ∉ op.writes := by
  intro ops hops op hop w hb
  rw [List.mem_singleton] at hops
  subst hops
  rw [List.mem_singleton] at hop
  subst hop
  have e : Pipeline.arrRef spec0 w = main_v0 := Proc.devRef_injective _ (Finset.mem_singleton.mp hb)
  clear hb
  revert e
  revert w
  decide

/-- What the buffers hold at the end. -/
abbrev Vend : Valuation τ sig (Elt F) :=
  StableHlo.after hostOps1 (Pipeline.withArrays spec0 c (Pipeline.withR (V0 c m) ∅ c (fun b => V0 c m (Proc.devRef .tc b))) fun w => (dats m 0 c).arrAt w (cfg0 (F := F)).N)

/-- The adjacency matrices are read whole beside the region's arrays. -/
theorem arg1_rest : ({main_arg1} : Finset (Ref sig .tc)) ⊆ Pipeline.restRefs sig spec0 := by decide

/-! The scratch buffers held whole are their own views held. -/
theorem hM_eq : (iprop(∃ f : Buf (Elt F) ((c : Thread nD τ).loc cc0_scratch0), ((c : Thread nD τ).loc cc0_scratch0) ↦{fullShare} f) : sProp 𝕄) = iprop(∃ f, own c hM f) := by
  unfold own
  rw [show hM.view.set = Finset.univ from View.set_whole _]
theorem sM_eq : (iprop(∃ f : Buf (Elt F) ((c : Thread nD τ).loc cc0_scratch1), ((c : Thread nD τ).loc cc0_scratch1) ↦{fullShare} f) : sProp 𝕄) = iprop(∃ f, own c sM f) := by
  unfold own
  rw [show sM.view.set = Finset.univ from View.set_whole _]
theorem mM_eq : (iprop(∃ f : Buf (Elt F) ((c : Thread nD τ).loc cc0_scratch2), ((c : Thread nD τ).loc cc0_scratch2) ↦{fullShare} f) : sProp 𝕄) = iprop(∃ f, own c mM f) := by
  unfold own
  rw [show mM.view.set = Finset.univ from View.set_whole _]

/-- What the launch hands the region. -/
abbrev given (c : Dev nD) : sProp 𝕄 :=
  Pipeline.ΦDRV osem spec0 {main_arg1} ∅ (fun c b => V0 c m (Proc.devRef .tc b)) (fun c b => V0 c m (Proc.devRef .tc b)) c

/-- What the launch hands the region is its invariant. -/
theorem given_Φ : given m c ⊢ Φ c m := by
  unfold given Pipeline.ΦDRV
  rw [scopedRest0_eq, bigSep_singleton, hM_eq, sM_eq, mM_eq, a_eq c]
  unfold Φ
  iintro ⟨⟨HH, HS, HM, HB⟩, HC, HA, -⟩
  isplitl [HA]
  · iexact HA
  isplitl [HB HC]
  · iapply (slots_split c)
    isplitl [HB]
    · iexact HB
    iexact HC
  isplitl [HH]
  · iexact HH
  isplitl [HS]
  · iexact HS
  iexact HM

/-- The invariant is what the launch takes back. -/
theorem Φ_given : Φ c m ⊢ given m c := by
  unfold given Pipeline.ΦDRV
  rw [scopedRest0_eq, bigSep_singleton, bigSep_empty, hM_eq, sM_eq, mM_eq, a_eq c]
  unfold Φ
  iintro ⟨HA, HSl, HH, HS, HM⟩
  ihave HSl' := (slots_join c) $$ HSl
  icases HSl' with ⟨HB, HC⟩
  isplitl [HB HH HS HM]
  · isplitl [HH]
    · iexact HH
    isplitl [HS]
    · iexact HS
    isplitl [HM]
    · iexact HM
    iexact HB
  isplitl [HC]
  · iexact HC
  isplitl [HA]
  · iexact HA
  iempintro

set_option backward.isDefEq.respectTransparency.types false in
/-- Every weakly fair execution of the kernel terminates; at the end the region's arrays and the buffers beside them are
    as named, and every semaphore counter is zero. -/
theorem run_raw : θ_run (defs (F := F)) (onTc (τ := τ) (main (F := F))) (s₀ m ρ) (fun r => (∀ c : Dev nD,
      (∀ w, r.2.mem ((spec0 w).arr.view.loc (c.tc : Thread nD τ)) = (dats m 0 c).arrAt w (cfg0 (F := F)).N)
      ∧ ∀ b ∈ Pipeline.restRefs sig spec0, r.2.mem ((c.tc : Thread nD τ).loc b) = Vend c m (Proc.devRef .tc b))
    ∧ r.2.sem = fun _ => 0) :=
  Pipeline.θ_run_frame_dmaR_aroundV (cfgs (F := F)) (dats m) (0 : Fin 1) launch0 osem defs₀ 𝒱₀ ownSemFacts {main_arg1} ∅
    arg1_rest (Finset.empty_subset _) m ρ main
    (hbody := fun c => (body_obligation c m).loose) (hshare := fun c => (dats m 0 c).share_full fun _ => rfl)
    (howed := fun _ _ => rfl) (V₀ := fun c => V0 c m) (opss := [hostOps1]) (hsub := sfx_sub) (hfresh := sfx_fresh) (hkeep := sfx_keeps)
    (G := fun c b => V0 c m (Proc.devRef .tc b))
    (hmain := Pipeline.hmain_around cfgs 0 defs₀ 𝒱₀ m main [hostOps0] [hostOps1] hostOps0_sub ⟨rfl, rfl, rfl⟩ main_chain)
    (hA := fun _ _ => rfl)
    (hin := fun c => given_Φ c m) (hout := fun c => Φ_given c m)
    (Q' := fun r => (∀ c : Dev nD,
      (∀ w, r.2.mem ((spec0 w).arr.view.loc (c.tc : Thread nD τ)) = (dats m 0 c).arrAt w (cfg0 (F := F)).N)
      ∧ ∀ b ∈ Pipeline.restRefs sig spec0, r.2.mem ((c.tc : Thread nD τ).loc b) = Vend c m (Proc.devRef .tc b))
    ∧ r.2.sem = fun _ => 0)
    (hQ' := fun _ h => h)

/-! ## The arguments and the result -/

/-- The operations before the region change the reshaped biases only. -/
theorem V0_arg (b : Ref sig .tc) (hb : b ∉ [main_call0_v0, main_call0_v1, main_call0_v2]) :
    V0 c m (Proc.devRef .tc b) = m ((c.tc : Thread nD τ).loc b) :=
  StableHlo.after_unwritten [main_call0_v0, main_call0_v1, main_call0_v2] rfl hb _
/-- A buffer outside the region's arrays, beside the result, ends as it started. -/
theorem Vend_arg (b : Ref sig .tc) (hb : b ∉ [main_call0_v0, main_call0_v1, main_call0_v2]) (h0 : b ∉ [main_v0]) (hw : ∀ w, Pipeline.arrRef spec0 w ≠ b) :
    Vend c m (Proc.devRef .tc b) = m ((c.tc : Thread nD τ).loc b) := by
  unfold Vend
  rw [StableHlo.after_unwritten [main_v0] rfl h0, Pipeline.withArrays_of_ne spec0 c _ _ b hw, Pipeline.withR_of_not_mem _ _ _ _ b (Finset.notMem_empty b)]
  exact V0_arg c m b hb

set_option backward.isDefEq.respectTransparency.types false in
/-- Every weakly fair execution terminates with the result as named, the arguments as they were and every semaphore
    counter zero. -/
theorem run_main : θ_run (defs (F := F)) (onTc (τ := τ) (main (F := F))) ⟨m, fun _ => 0, ρ⟩ (fun r => (∀ c : Dev nD,
      r.2.mem ((c.tc : Thread nD τ).loc main_v0) = Vend c m (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
    ∧ r.2.sem = fun _ => 0) :=
  (θ_run (defs (F := F)) _ _).mono (fun r h => ⟨fun c => ⟨(h.1 c).2 main_v0 (by decide),
    ((h.1 c).1 0).trans (((dats m 0 c).arrAt_in 0 rfl _).trans (V0_arg c m main_arg0 (by decide))),
    ((h.1 c).2 main_arg1 (by decide)).trans (Vend_arg c m main_arg1 (by decide) (by decide) (by decide)),
    ((h.1 c).1 1).trans (((dats m 0 c).arrAt_in 1 rfl _).trans (V0_arg c m main_arg2 (by decide))),
    ((h.1 c).2 main_arg3 (by decide)).trans (Vend_arg c m main_arg3 (by decide) (by decide) (by decide)),
    ((h.1 c).1 3).trans (((dats m 0 c).arrAt_in 3 rfl _).trans (V0_arg c m main_arg4 (by decide))),
    ((h.1 c).2 main_arg5 (by decide)).trans (Vend_arg c m main_arg5 (by decide) (by decide) (by decide)),
    ((h.1 c).1 5).trans (((dats m 0 c).arrAt_in 5 rfl _).trans (V0_arg c m main_arg6 (by decide))),
    ((h.1 c).2 main_arg7 (by decide)).trans (Vend_arg c m main_arg7 (by decide) (by decide) (by decide))⟩, h.2⟩) (run_raw m ρ)

set_option backward.isDefEq.respectTransparency.types false in
/-- The same, of the arguments and the counters alone. -/
theorem run_frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
    ∧ r.2.sem = fun _ => 0) :=
  (θ_run (defs (F := F)) _ _).mono (fun r h => ⟨fun c => (h.1 c).2, h.2⟩) (run_main m ρ)

end Cert.Proof.Gcn

end
-- ==== Proof.Pool.lean ====
module

public import Idealize.ShloMosaic.Lib.Pointwise
public import Idealize.ShloMosaic.Lib.Routing.OpsOrder

@[expose] public section

/-! Pooling over masked rows, as equations of extended reals: a bias added before or after the pooling, a mean and a
maximum taken in blocks of rows or at once. -/

noncomputable section

namespace Cert.Proof.Gcn

open Idealize.ShloMosaic

/-- A test's bit, read as an unsigned number: one where it holds, zero elsewhere. -/
theorem unsigned_bit (p : Prop) [Decidable p] :
    FloatOps.uitofp (F := Ideal) .f32 (BitVec.ofBool (decide p)) = if p then (1 : EReal) else 0 := by
  by_cases h : p
  · rw [if_pos h, decide_eq_true h]; show (((1 : ℕ) : ℝ) : EReal) = 1; simp
  · rw [if_neg h, decide_eq_false h]; show (((0 : ℕ) : ℝ) : EReal) = 0; simp

/-- A test's bit widened to a word and read as a signed number: the same. -/
theorem signed_bit (p : Prop) [Decidable p] :
    FloatOps.sitofp (F := Ideal) .f32 (BitVec.setWidth 32 (BitVec.ofBool (decide p))) = if p then (1 : EReal) else 0 := by
  by_cases h : p
  · rw [if_pos h, decide_eq_true h]; show (((1 : ℤ) : ℝ) : EReal) = 1; simp
  · rw [if_neg h, decide_eq_false h]; show (((0 : ℤ) : ℝ) : EReal) = 0; simp

/-- The pattern of minus infinity denotes the least extended real. -/
theorem minus_infinity : Ideal.ofBits .f32 4286578688#32 = ⊥ := by simp [Ideal.ofBits, Ideal.ieee]

/-- A maximum from the least value up is a supremum. -/
theorem fold_max {ι : Type} (s : Finset ι) (f : ι → EReal) : Finset.fold max ⊥ f s = s.sup f := rfl

/-! ### The mean -/

/-- A finite positive divisor divides a sum term by term. -/
theorem div_add (x y : EReal) (k : ℕ) (hk : k ≠ 0) :
    Ideal.div (x + y) (k : EReal) = Ideal.div x k + Ideal.div y k := by
  have h0 : (k : EReal) ≠ 0 := by exact_mod_cast hk
  have hp : (0 : EReal) ≤ (k : EReal) := by exact_mod_cast Nat.zero_le k
  unfold Ideal.div
  rw [if_neg h0, if_neg h0, if_neg h0]
  exact EReal.right_distrib_of_nonneg_of_ne_top (EReal.inv_nonneg_of_nonneg hp) (EReal.inv_lt_top _).ne x y

/-- `k` copies of a value, divided by `k`, are the value. -/
theorem div_copies (b : EReal) (k : ℕ) (hk : k ≠ 0) : Ideal.div (k • b) (k : EReal) = b := by
  have h0 : (k : EReal) ≠ 0 := by exact_mod_cast hk
  unfold Ideal.div
  rw [if_neg h0, EReal.nsmul_eq_mul, mul_comm (k : EReal) b, mul_assoc]
  exact (congrArg (b * ·) (EReal.div_self (EReal.natCast_ne_bot k) (EReal.natCast_ne_top k) h0)).trans (mul_one b)

variable {N : ℕ} (P : Fin N → Prop) [DecidablePred P]

/-- How many rows count. -/
def count : EReal := ∑ n, if P n then 1 else 0

/-- The count is a natural number. -/
theorem count_eq : count P = ((Finset.univ.filter P).card : EReal) := by
  unfold count
  rw [Finset.sum_boole]

/-- The mean over the rows that count does not mind whether a bias is added to each row or to the mean, as long as it
    is left out where no row counts. -/
theorem mean_bias (z : Fin N → EReal) (b : EReal) :
    Ideal.div (∑ n, (z n + b) * (if P n then 1 else 0)) (max (count P) 1)
      = Ideal.div (∑ n, if P n then z n else 0) (max (count P) 1) + b * min (count P) 1 := by
  have hs : (∑ n, (z n + b) * (if P n then (1 : EReal) else 0)) = (∑ n, if P n then z n else 0) + (Finset.univ.filter P).card • b := by
    rw [← Finset.sum_const, Finset.sum_filter, ← Finset.sum_add_distrib]
    refine Finset.sum_congr rfl fun n _ => ?_
    by_cases h : P n <;> simp [h]
  rw [hs, count_eq]
  rcases Nat.eq_zero_or_pos (Finset.univ.filter P).card with h | h
  · have hz : (∑ n, if P n then z n else 0) = 0 := by
      rw [← Finset.sum_filter, Finset.card_eq_zero.mp h, Finset.sum_empty]
    rw [h, hz, zero_smul, add_zero]
    simp
  · have h1 : (1 : EReal) ≤ ((Finset.univ.filter P).card : EReal) := by exact_mod_cast h
    rw [max_eq_left h1, min_eq_right h1, mul_one, div_add _ _ _ h.ne', div_copies _ _ h.ne']

/-! ### The maximum -/

/-- A bias added to every row moves the maximum by the bias. -/
theorem sup_bias (z : Fin N → EReal) (b : EReal) : (Finset.univ.sup z) + b = Finset.univ.sup fun n => z n + b :=
  Finset.comp_sup_eq_sup_comp_of_is_total (fun x : EReal => x + b) (fun _ _ h => add_le_add_left h b) (EReal.bot_add b)

/-- The maximum over the rows that count, the bias added afterwards and the result floored, is the maximum over all
    rows with the floor in place of those that do not count: where every row counts, provided the maximum is at least
    the floor. -/
theorem max_bias (z : Fin N → EReal) (b w : EReal) (h : (∃ n, ¬ P n) ∨ w ≤ Finset.univ.sup fun n => z n + b) :
    max ((Finset.univ.sup fun n => if P n then z n else ⊥) + b) w = Finset.univ.sup fun n => if P n then z n + b else w := by
  rw [sup_bias]
  have hle : (Finset.univ.sup fun n => if P n then z n + b else w)
      ≤ max (Finset.univ.sup fun n => (if P n then z n else ⊥) + b) w := by
    refine Finset.sup_le fun n _ => ?_
    by_cases hn : P n
    · rw [if_pos hn]
      refine le_max_of_le_left (le_trans (le_of_eq ?_) (Finset.le_sup (f := fun n => (if P n then z n else ⊥) + b) (Finset.mem_univ n)))
      simp [hn]
    · rw [if_neg hn]; exact le_max_right _ _
  have hw : w ≤ Finset.univ.sup fun n => if P n then z n + b else w := by
    by_cases he : ∃ n, ¬ P n
    · obtain ⟨n, hn⟩ := he
      refine le_trans (le_of_eq ?_) (Finset.le_sup (f := fun n => if P n then z n + b else w) (Finset.mem_univ n))
      simp [hn]
    · have ha : ∀ n, P n := fun n => not_not.mp fun hn => he ⟨n, hn⟩
      have e : (fun n => if P n then z n + b else w) = fun n => z n + b := funext fun n => if_pos (ha n)
      rw [e]
      exact h.resolve_left he
  refine le_antisymm (max_le (Finset.sup_le fun n _ => ?_) hw) hle
  by_cases hn : P n
  · refine le_trans (le_of_eq ?_) (Finset.le_sup (f := fun n => if P n then z n + b else w) (Finset.mem_univ n))
    simp [hn]
  · rw [if_neg hn, EReal.bot_add]; exact bot_le

/-! ### Blocks of rows -/

/-- Row `r` of block `j`, among all rows. -/
def rowAt (j : Fin 4) (r : Fin 512) : Fin 2048 := ⟨512 * j.val + r.val, by omega⟩

/-- Every row is in a block. -/
theorem rowAt_surj (n : Fin 2048) : ∃ j r, rowAt j r = n :=
  ⟨⟨n.val / 512, by omega⟩, ⟨n.val % 512, by omega⟩, Fin.ext (by simp only [rowAt]; omega)⟩

/-- A sum over all rows, taken as four running sums. -/
theorem sum_blocks (g : Fin 2048 → EReal) :
    ∑ r, (g (rowAt 0 r) + g (rowAt 1 r) + g (rowAt 2 r) + g (rowAt 3 r)) = ∑ n, g n := by
  have e : (∑ n, g n) = ∑ p : Fin 4 × Fin 512, g (rowAt p.1 p.2) := by
    refine (Fintype.sum_equiv (finProdFinEquiv (m := 4) (n := 512)) _ _ fun p => congrArg g (Fin.ext ?_)).symm
    show 512 * p.1.val + p.2.val = p.2.val + 512 * p.1.val
    omega
  rw [e, Fintype.sum_prod_type, Finset.sum_comm]
  exact Finset.sum_congr rfl fun r _ => (Fin.sum_univ_four fun j => g (rowAt j r)).symm

/-- A maximum over all rows, taken as four running maxima. -/
theorem sup_blocks (g : Fin 2048 → EReal) :
    (Finset.univ.sup fun r => max (max (max (g (rowAt 0 r)) (g (rowAt 1 r))) (g (rowAt 2 r))) (g (rowAt 3 r))) = Finset.univ.sup g := by
  refine le_antisymm (Finset.sup_le fun r _ => ?_) (Finset.sup_le fun n _ => ?_)
  · have h : ∀ j, g (rowAt j r) ≤ Finset.univ.sup g := fun j => Finset.le_sup (f := g) (Finset.mem_univ _)
    exact max_le (max_le (max_le (h 0) (h 1)) (h 2)) (h 3)
  · obtain ⟨j, r, rfl⟩ := rowAt_surj n
    refine le_trans ?_ (Finset.le_sup (f := fun r => max (max (max (g (rowAt 0 r)) (g (rowAt 1 r))) (g (rowAt 2 r))) (g (rowAt 3 r))) (Finset.mem_univ r))
    fin_cases j <;> simp

end Cert.Proof.Gcn
end
-- ==== Proof.Spec.lean ====
module

public import proofs.«01_k».proof.Proof.Pool

@[expose] public section

/-! What both programs compute, entry by entry, of arrays given as functions of their indices. -/

noncomputable section

namespace Cert.Proof.Gcn

open Idealize.ShloMosaic

variable (x : Fin 8 → Fin 2048 → Fin 65 → EReal) (a : Fin 8 → Fin 2048 → Fin 2048 → EReal) (ck : Fin 64 → Fin 32 → EReal) (cb : Fin 32 → EReal)
  (dk : Fin 64 → Fin 512 → EReal) (db : Fin 512 → EReal) (lk : Fin 512 → Fin 128 → EReal) (lb : Fin 128 → EReal)

/-- The graph convolution before its bias: a node's neighbours' features, weighted. -/
def agg (b : Fin 8) (n : Fin 2048) (f : Fin 32) : EReal := ∑ j, a b n j * ∑ k : Fin 64, x b j ⟨k.val, by omega⟩ * ck k f
/-- Node `n` of graph `b` counts: its last feature is not zero. -/
def good (b : Fin 8) (n : Fin 2048) : Prop := x b n 64 ≠ 0
instance (b : Fin 8) : DecidablePred (good x b) := fun n => inferInstanceAs (Decidable (x b n 64 ≠ 0))

/-- The value a node that does not count takes in the maximum. -/
def floorVal : EReal := Ideal.ofBits .f32 3463342888#32

/-- The mean of a graph's activations over the nodes that count. -/
def meanOf (b : Fin 8) (f : Fin 32) : EReal :=
  Ideal.div (∑ n, (agg x a ck b n f + cb f) * (if good x b n then 1 else 0)) (max (count (good x b)) 1)
/-- The maximum of a graph's activations, those of nodes that do not count replaced. -/
def topOf (b : Fin 8) (f : Fin 32) : EReal := Finset.univ.sup fun n => if good x b n then agg x a ck b n f + cb f else floorVal

/-- The two dense layers, on a graph's means and maxima. -/
def headOf (p q : Fin 32 → EReal) (l : Fin 128) : EReal :=
  ∑ h : Fin 512, max ((∑ f : Fin 32, p f * dk ⟨f.val, by omega⟩ h) + (∑ f : Fin 32, q f * dk ⟨32 + f.val, by omega⟩ h) + db h) 0 * lk h l + lb l

/-- The result's entry for graph `b` and label `l`. -/
def resultOf (b : Fin 8) (l : Fin 128) : EReal := headOf dk db lk lb (meanOf x a ck cb b) (topOf x a ck cb b) l

/-- The claim's precondition at a graph and channel. -/
def aboveFloor (b : Fin 8) (f : Fin 32) : Prop :=
  (∃ n, ¬ good x b n) ∨ floorVal ≤ Finset.univ.sup fun n => agg x a ck b n f + cb f

end Cert.Proof.Gcn
end
-- ==== Proof.Ref.lean ====
module

public import proofs.«01_k».proof.Proof.Gen.ReferenceIdeal.Run
public import proofs.«01_k».proof.Proof.Gen.Pre_pooled_above_floor
public import Idealize.ShloMosaic.Lib.Pointwise
public import proofs.«01_k».proof.Proof.Spec

@[expose] public section

/-! The reference's result, read entry by entry. -/

set_option maxRecDepth 16384

noncomputable section

namespace Cert.Proof.Gcn.Ref

open Cert.ReferenceIdeal Cert.ReferenceIdeal.Gen Cert.ReferenceIdeal.Facts
open Idealize.ShloMosaic Idealize.ShloMosaic.Pointwise Idealize.ShloMosaic.TcCoe Idealize.SL.Sem

variable (x : FVec Ideal S8x2048x65 .f32) (a : FVec Ideal S8x2048x2048 .f32) (ck : FVec Ideal S64x32 .f32) (cb : FVec Ideal S32 .f32)
  (dk : FVec Ideal S64x512 .f32) (db : FVec Ideal S512 .f32) (lk : FVec Ideal S512x128 .f32) (lb : FVec Ideal S128 .f32)

/-- Which nodes of each graph are valid. -/
def valid : IVec S8x2048 1 :=
  cmpf .une (shapeCast S8x2048 (extractStridedSlice S8x2048x1 ![0, 0, 64] x slices_S8x2048x65_S8x2048x1_0_0_64) shapeCasts_S8x2048x1_S8x2048)
    (broadcastInDim S8x2048 ![] bcast_S_S8x2048 (constant S_ .f32 0x00000000#32))

/-- The convolution. -/
def conv : FVec Ideal S8x2048x32 .f32 :=
  addf (Host.dotGeneral dot_S8x2048x2048_S8x2048x32_S8x2048x32_2_1_1_2_0_0 none a
      (Host.dotGeneral dot_S8x2048x64_S64x32_S8x2048x32_2_0_01_1_n_n none (extractStridedSlice S8x2048x64 ![0, 0, 0] x slices_S8x2048x65_S8x2048x64_0_0_0) ck))
    (broadcastInDim S8x2048x32 ![0, 1, 2] bcast_S1x1x32_S8x2048x32_0_1_2 (broadcastInDim S1x1x32 ![2] bcast_S32_S1x1x32_2 cb))

/-- The mask as floats. -/
def maskF (v : IVec S8x2048 1) : FVec Ideal S8x2048x1 .f32 := uitofp .f32 (broadcastInDim S8x2048x1 ![0, 1] bcast_S8x2048_S8x2048x1_0_1 v)

/-- The mean over the valid nodes. -/
def avg (v : IVec S8x2048 1) (h : FVec Ideal S8x2048x32 .f32) : FVec Ideal S8x32 .f32 :=
  Host.divf (Host.reduceAdd (mulf h (broadcastInDim S8x2048x32 ![0, 1, 2] bcast_S8x2048x1_S8x2048x32_0_1_2 (maskF v))) (constant S_ .f32 0x00000000#32) reducesTo_S8x2048x32_S8x32_d1 h_S_)
    (broadcastInDim S8x32 ![0, 1] bcast_S8x1_S8x32_0_1 (maximumf (Host.reduceAdd (maskF v) (constant S_ .f32 0x00000000#32) reducesTo_S8x2048x1_S8x1_d1 h_S_) (broadcastInDim S8x1 ![] bcast_S_S8x1 (constant S_ .f32 0x3F800000#32))))

/-- The maximum over the valid nodes. -/
def top (v : IVec S8x2048 1) (h : FVec Ideal S8x2048x32 .f32) : FVec Ideal S8x32 .f32 :=
  Host.reduce FloatOps.maximumf (select (broadcastInDim S8x2048x32 ![0, 1, 2] bcast_S8x2048x1_S8x2048x32_0_1_2 (broadcastInDim S8x2048x1 ![0, 1] bcast_S8x2048_S8x2048x1_0_1 v)) h
    (broadcastInDim S8x2048x32 ![] bcast_S_S8x2048x32 (id (constant S_ .f32 0xCE6E6B28#32)))) (constant S_ .f32 0xFF800000#32) reducesTo_S8x2048x32_S8x32_d1 h_S_

/-- The two dense layers. -/
def head (p q : FVec Ideal S8x32 .f32) : FVec Ideal S8x128 .f32 :=
  addf (Host.dotGeneral dot_S8x512_S512x128_S8x128_1_0_0_1_n_n none
      (maximumf (addf (Host.dotGeneral dot_S8x64_S64x512_S8x512_1_0_0_1_n_n none (concatenate S8x64 1 [⟨S8x32, p⟩, ⟨S8x32, q⟩] concatenates_S8x32_S8x32_S8x64_d1) dk)
          (broadcastInDim S8x512 ![0, 1] bcast_S1x512_S8x512_0_1 (broadcastInDim S1x512 ![1] bcast_S512_S1x512_1 db)))
        (broadcastInDim S8x512 ![] bcast_S_S8x512 (constant S_ .f32 0x00000000#32))) lk)
    (broadcastInDim S8x128 ![0, 1] bcast_S1x128_S8x128_0_1 (broadcastInDim S1x128 ![1] bcast_S128_S1x128_1 lb))

/-- What the reference computes. -/
def out : FVec Ideal S8x128 .f32 := head dk db lk lb (avg (valid x) (conv x a ck cb)) (top (valid x) (conv x a ck cb))

/-- The reference runs to `out` of its arguments, which it leaves as they were. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32)
        = out (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => h c) (Cert.ReferenceIdeal.Value.run (F := Ideal) m ρ)

/-- The convolution at an entry. -/
theorem conv_at (b : Fin 8) (n : Fin 2048) (f : Fin 32) :
    conv x a ck cb (ix3 b n f) = agg (fun b n k => x (ix3 b n k)) (fun b n j => a (ix3 b n j)) (fun k f => ck (ix2 k f)) b n f + cb (ix1 f) := by
  unfold agg
  pointwise [conv]

/-- The mean at an entry. -/
theorem avg_at (h : FVec Ideal S8x2048x32 .f32) (b : Fin 8) (f : Fin 32) :
    avg (valid x) h (ix2 b f) = Ideal.div (∑ n, h (ix3 b n f) * (if good (fun b n k => x (ix3 b n k)) b n then 1 else 0))
      (max (count (good (fun b n k => x (ix3 b n k)) b)) 1) := by
  have e : ∀ n : Fin 2048, (if good (fun b n k => x (ix3 b n k)) b n then (1 : EReal) else 0)
      = FloatOps.uitofp (F := Ideal) .f32 (BitVec.ofBool (decide (x (ix3 b n 64) ≠ 0))) := fun n => (unsigned_bit _).symm
  unfold count
  simp only [e]
  pointwise [avg, valid, maskF]

/-- The maximum at an entry. -/
theorem top_at (h : FVec Ideal S8x2048x32 .f32) (b : Fin 8) (f : Fin 32) :
    top (valid x) h (ix2 b f) = Finset.univ.sup fun n => if good (fun b n k => x (ix3 b n k)) b n then h (ix3 b n f) else floorVal := by
  rw [← fold_max, ← minus_infinity]
  pointwise [top, valid]
  rfl

/-- The dense layers at an entry. -/
theorem head_at (p q : FVec Ideal S8x32 .f32) (b : Fin 8) (l : Fin 128) :
    head dk db lk lb p q (ix2 b l) = headOf (fun k h => dk (ix2 k h)) (fun h => db (ix1 h)) (fun h l => lk (ix2 h l)) (fun l => lb (ix1 l))
      (fun f => p (ix2 b f)) (fun f => q (ix2 b f)) l := by
  unfold headOf
  pointwise [head]

/-- The reference's result at an entry. -/
theorem out_at (b : Fin 8) (l : Fin 128) :
    out x a ck cb dk db lk lb (ix2 b l) = resultOf (fun b n k => x (ix3 b n k)) (fun b n j => a (ix3 b n j)) (fun k f => ck (ix2 k f)) (fun f => cb (ix1 f))
      (fun k h => dk (ix2 k h)) (fun h => db (ix1 h)) (fun h l => lk (ix2 h l)) (fun l => lb (ix1 l)) b l := by
  rw [out, head_at, resultOf]
  have ep : (fun f => avg (valid x) (conv x a ck cb) (ix2 b f)) = meanOf (fun b n k => x (ix3 b n k)) (fun b n j => a (ix3 b n j)) (fun k f => ck (ix2 k f)) (fun f => cb (ix1 f)) b := by
    funext f; rw [avg_at]; simp only [conv_at]; rfl
  have eq : (fun f => top (valid x) (conv x a ck cb) (ix2 b f)) = topOf (fun b n k => x (ix3 b n k)) (fun b n j => a (ix3 b n j)) (fun k f => ck (ix2 k f)) (fun f => cb (ix1 f)) b := by
    funext f; rw [top_at]; simp only [conv_at]; rfl
  rw [ep, eq]

/-- The precondition, at a graph and channel: a node does not count, or the largest activation is at least the value
    of such a node. -/
theorem pre_at (h : Cert.Pre_pooled_above_floor.fn (F := Ideal) x a ck cb dk db lk lb = fun _ => 1#1) (b : Fin 8) (f : Fin 32) :
    aboveFloor (fun b n k => x (ix3 b n k)) (fun b n j => a (ix3 b n j)) (fun k f => ck (ix2 k f)) (fun f => cb (ix1 f)) b f := by
  have e : Cert.Pre_pooled_above_floor.fn (F := Ideal) x a ck cb dk db lk lb (ix2 b f)
      = IntOp.ori (Finset.fold IntOp.ori (0#1) (fun n : Fin 2048 => ~~~BitVec.ofBool (decide (x (ix3 b n 64) ≠ 0))) Finset.univ)
        (BitVec.ofBool (decide (floorVal ≤ Finset.univ.sup fun n : Fin 2048 =>
          agg (fun b n k => x (ix3 b n k)) (fun b n j => a (ix3 b n j)) (fun k f => ck (ix2 k f)) b n f + cb (ix1 f)))) := by
    rw [← fold_max, ← minus_infinity]
    unfold agg floorVal
    pointwise [Cert.Pre_pooled_above_floor.fn]
  rw [h] at e
  unfold aboveFloor
  by_cases hf : floorVal ≤ Finset.univ.sup fun n : Fin 2048 =>
          agg (fun b n k => x (ix3 b n k)) (fun b n j => a (ix3 b n j)) (fun k f => ck (ix2 k f)) b n f + cb (ix1 f)
  · exact Or.inr hf
  · rw [decide_eq_false hf] at e
    have e1 : Finset.fold IntOp.ori (0#1) (fun n : Fin 2048 => ~~~BitVec.ofBool (decide (x (ix3 b n 64) ≠ 0))) Finset.univ = 1#1 := by
      refine Eq.trans ?_ e.symm
      show _ = _ ||| 0#1
      rw [BitVec.or_zero]
    obtain ⟨n, -, hn⟩ := (Idealize.ShloMosaic.Routing.fold_ori _ _).mp e1
    refine Or.inl ⟨n, fun hg => ?_⟩
    rw [decide_eq_true (show x (ix3 b n 64) ≠ 0 from hg)] at hn
    exact absurd hn (by decide)

end Cert.Proof.Gcn.Ref
end
-- ==== Proof.Pay.lean ====
module

public import proofs.«01_k».proof.Proof.Trip
public import proofs.«01_k».proof.Proof.Spec

@[expose] public section

/-! The kernel's values, read entry by entry. -/

set_option maxRecDepth 16384

noncomputable section

namespace Cert.Proof.Gcn

open Cert.KernelIdeal Cert.KernelIdeal.Gen
open Idealize.ShloMosaic Idealize.ShloMosaic.Pointwise Idealize.ShloMosaic.TcCoe Idealize.SL.Sem

/-! ### What each step computes -/

/-- A graph's features times the weights. -/
theorem feat_at (v2 : Vec Ideal S1x2048x64 .f32) (v4 : Vec Ideal S64x32 .f32) (n : Fin 2048) (f : Fin 32) :
    k0_pay12 v2 v4 (ix3 0 n f) = ∑ k : Fin 64, v2 (ix3 0 n k) * v4 (ix2 k f) := by
  pointwise [k0_pay12]
/-- A row block of the adjacency matrix times them. -/
theorem prod_at (v2 : Vec Ideal S1x512x2048 .f32) (v4 : Vec Ideal S1x2048x32 .f32) (n : Fin 512) (f : Fin 32) :
    k0_pay2 v2 v4 (ix2 n f) = ∑ k : Fin 2048, v2 (ix3 0 n k) * v4 (ix3 0 k f) := by
  pointwise [k0_pay2]
/-- The product, zero at rows that do not count. -/
theorem kept_at (v2 : Vec Ideal S1x512x2048 .f32) (v4 : Vec Ideal S1x2048x32 .f32) (v : Vec Ideal S1x512x1 .f32) (n : Fin 512) (f : Fin 32) :
    k0_pay4 v2 v4 v (ix2 n f) = if v (ix3 0 n 0) ≠ 0 then k0_pay2 v2 v4 (ix2 n f) else 0 := by
  pointwise [k0_pay4, k0_pay3]
/-- The first block's running sum. -/
theorem sum0_at (v : FVec Ideal S512x32 .f32) (n : Fin 512) (f : Fin 32) : k0_pay7 v (ix2 n f) = v (ix2 n f) := by
  pointwise [k0_pay7]
/-- A later block's running sum. -/
theorem sum1_at (v w : FVec Ideal S512x32 .f32) (n : Fin 512) (f : Fin 32) : k0_pay9 v w (ix2 n f) = w (ix2 n f) + v (ix2 n f) := by
  pointwise [k0_pay9]
/-- The first block's running maximum. -/
theorem max0_at (z : FVec Ideal S512x32 .f32) (e : Ideal .f32) (v : Vec Ideal S1x512x1 .f32) (n : Fin 512) (f : Fin 32) :
    k0_pay8 z e (k0_pay5 v) (ix2 n f) = if v (ix3 0 n 0) ≠ 0 then z (ix2 n f) else e := by
  pointwise [k0_pay8, k0_pay6, k0_pay5, k0_pay3]
/-- A later block's running maximum. -/
theorem max1_at (z : FVec Ideal S512x32 .f32) (e : Ideal .f32) (v : Vec Ideal S1x512x1 .f32) (w : FVec Ideal S512x32 .f32) (n : Fin 512) (f : Fin 32) :
    k0_pay10 z e (k0_pay5 v) w (ix2 n f) = max (w (ix2 n f)) (if v (ix3 0 n 0) ≠ 0 then z (ix2 n f) else e) := by
  pointwise [k0_pay10, k0_pay6, k0_pay5, k0_pay3]
/-- The hidden layer before its nonlinearity. -/
theorem hidden_at (v2 : Vec Ideal S1x2048x1 .f32) (v3 v4 : Vec Ideal S512x32 .f32) (v5 v6 : Vec Ideal S1x32 .f32) (v7 : Vec Ideal S64x512 .f32) (v8 : Vec Ideal S1x512 .f32)
    (n : Fin 512) :
    k0_pay1 v2 v3 v4 v5 v6 v7 v8 (ix2 0 n)
      = (∑ f : Fin 32, (Ideal.div (∑ r : Fin 512, v3 (ix2 r f)) (max (count fun n : Fin 2048 => v2 (ix3 0 n 0) ≠ 0) 1)
            + v5 (ix2 0 f) * min (count fun n : Fin 2048 => v2 (ix3 0 n 0) ≠ 0) 1) * v7 (ix2 ⟨f.val, by omega⟩ n))
        + (∑ f : Fin 32, max ((Finset.univ.sup fun r : Fin 512 => v4 (ix2 r f)) + v6 (ix2 0 f)) floorVal * v7 (ix2 ⟨32 + f.val, by omega⟩ n))
        + v8 (ix2 0 n) := by
  have e : count (fun n : Fin 2048 => v2 (ix3 0 n 0) ≠ 0)
      = ∑ x : Fin 2048, ∑ _y : Fin 1, FloatOps.sitofp (F := Ideal) .f32 (BitVec.setWidth 32 (BitVec.ofBool (decide (v2 (ix3 0 x 0) ≠ 0)))) := by
    unfold count
    refine Finset.sum_congr rfl fun n _ => ?_
    rw [Fin.sum_univ_one]
    exact (signed_bit _).symm
  rw [e]
  simp only [← fold_max, ← minus_infinity]
  unfold floorVal
  pointwise [k0_pay1]
/-- The output layer. -/
theorem label_at (v5 : Vec Ideal S1x512 .f32) (v6 : Ideal .f32) (v7 : Vec Ideal S512x128 .f32) (v8 : Vec Ideal S1x128 .f32) (l : Fin 128) :
    k0_pay11 v5 v6 v7 v8 (ix3 0 0 l) = ∑ h : Fin 512, max (v5 (ix2 0 h)) v6 * v7 (ix2 h l) + v8 (ix2 0 l) := by
  pointwise [k0_pay11]

end Cert.Proof.Gcn
end
-- ==== Proof.Row.lean ====
module

public import proofs.«01_k».proof.Proof.Pay

@[expose] public section

/-! A graph's row of the kernel's result is the row of the mathematics, of the arrays the launch is given. -/

set_option maxRecDepth 16384

noncomputable section

namespace Cert.Proof.Gcn

open Cert.KernelIdeal Cert.KernelIdeal.Gen
open Idealize.ShloMosaic Idealize.ShloMosaic.Pointwise Idealize.ShloMosaic.TcCoe Idealize.SL.Sem

variable (c : Dev nD) (XA : Buf (Elt Ideal) (aM.view.loc (c : Thread nD τ)))
  (X : Buf (Elt Ideal) (xM.view.loc (c : Thread nD τ))) (CK : Buf (Elt Ideal) (ckM.view.loc (c : Thread nD τ)))
  (CB : Buf (Elt Ideal) (cbM.view.loc (c : Thread nD τ))) (DK : Buf (Elt Ideal) (dkM.view.loc (c : Thread nD τ)))
  (DB : Buf (Elt Ideal) (dbM.view.loc (c : Thread nD τ))) (LK : Buf (Elt Ideal) (lkM.view.loc (c : Thread nD τ)))
  (LB : Buf (Elt Ideal) (lbM.view.loc (c : Thread nD τ)))

/-! ### The arrays by their indices -/

/-- The features. -/
abbrev xOf (b : Fin 8) (n : Fin 2048) (k : Fin 65) : EReal := (X : FVec Ideal S8x2048x65 .f32) (ix3 b n k)
/-- The adjacency matrices. -/
abbrev aOf (b : Fin 8) (n j : Fin 2048) : EReal := (XA : FVec Ideal S8x2048x2048 .f32) (ix3 b n j)
/-- The convolution's weights. -/
abbrev ckOf (k : Fin 64) (f : Fin 32) : EReal := (CK : FVec Ideal S64x32 .f32) (ix2 k f)
/-- The convolution's bias. -/
abbrev cbOf (f : Fin 32) : EReal := (CB : FVec Ideal S1x32 .f32) (ix2 0 f)
/-- The hidden layer's weights. -/
abbrev dkOf (k : Fin 64) (h : Fin 512) : EReal := (DK : FVec Ideal S64x512 .f32) (ix2 k h)
/-- The hidden layer's bias. -/
abbrev dbOf (h : Fin 512) : EReal := (DB : FVec Ideal S1x512 .f32) (ix2 0 h)
/-- The output layer's weights. -/
abbrev lkOf (h : Fin 512) (l : Fin 128) : EReal := (LK : FVec Ideal S512x128 .f32) (ix2 h l)
/-- The output layer's bias. -/
abbrev lbOf (l : Fin 128) : EReal := (LB : FVec Ideal S1x128 .f32) (ix2 0 l)

/-! ### The loads -/

/-- A graph's features. -/
theorem feats_at (b : Fin 8) (n : Fin 2048) (k : Fin 64) : feats c X b (ix3 0 n k) = xOf c X b n ⟨k.val, by omega⟩ := by
  refine congrArg (X : FVec Ideal S8x2048x65 .f32) (funext fun a => Fin.ext ?_)
  fin_cases a
  · show b.val + 1 * 0 = b.val; omega
  · show 0 + 1 * n.val = n.val; omega
  · show 0 + 1 * k.val = k.val; omega
/-- A graph's mask column. -/
theorem mask_at (b : Fin 8) (n : Fin 2048) : maskV c X b (ix3 0 n 0) = xOf c X b n 64 := by
  refine congrArg (X : FVec Ideal S8x2048x65 .f32) (funext fun a => Fin.ext ?_)
  fin_cases a
  · show b.val + 1 * 0 = b.val; omega
  · show 0 + 1 * n.val = n.val; omega
  · show 64 + 1 * 0 = 64; omega
/-- A block's rows of the mask column. -/
theorem col_at (b : Fin 8) (j : Fin 4) (r : Fin 512) : colV c X (4 * b.val + j.val) (ix3 0 r 0) = xOf c X b (rowAt j r) 64 := by
  refine congrArg (X : FVec Ideal S8x2048x65 .f32) (funext fun a => Fin.ext ?_)
  fin_cases a
  · show (4 * b.val + j.val) / 4 % 8 + 1 * 0 = b.val; omega
  · show 512 * ((4 * b.val + j.val) % 4) + 1 * r.val = 512 * j.val + r.val; omega
  · show 64 + 1 * 0 = 64; omega
/-- A block's rows of the adjacency matrix. -/
theorem blk_at (b : Fin 8) (j : Fin 4) (r : Fin 512) (n : Fin 2048) : blkV c XA (4 * b.val + j.val) (ix3 0 r n) = aOf c XA b (rowAt j r) n := by
  refine congrArg (XA : FVec Ideal S8x2048x2048 .f32) (funext fun a => Fin.ext ?_)
  fin_cases a
  · show (4 * b.val + j.val) % 32 / 4 + 1 * 0 = b.val; omega
  · show 512 * ((4 * b.val + j.val) % 32 % 4) + 1 * r.val = 512 * j.val + r.val; omega
  · show 0 + 1 * n.val = n.val; omega
/-- Loads of whole arrays. -/
theorem ck_at (k : Fin 64) (f : Fin 32) :
    ckM.view.readAt (Elt Ideal) (Rect.unit (s := S64x32) ![0, 0] S64x32.size inb_S64x32_S64x32_0_0).toLoadRect CK (ix2 k f) = ckOf c CK k f := by
  refine congrArg (CK : FVec Ideal S64x32 .f32) (funext fun a => Fin.ext ?_)
  fin_cases a
  · show 0 + 1 * k.val = k.val; omega
  · show 0 + 1 * f.val = f.val; omega
theorem cb_at (f : Fin 32) :
    cbM.view.readAt (Elt Ideal) (Rect.unit (s := S1x32) ![0, 0] S1x32.size inb_S1x32_S1x32_0_0).toLoadRect CB (ix2 0 f) = cbOf c CB f := by
  refine congrArg (CB : FVec Ideal S1x32 .f32) (funext fun a => Fin.ext ?_)
  fin_cases a
  · show 0 + 1 * 0 = 0; omega
  · show 0 + 1 * f.val = f.val; omega
theorem dk_at (k : Fin 64) (h : Fin 512) :
    dkM.view.readAt (Elt Ideal) (Rect.unit (s := S64x512) ![0, 0] S64x512.size inb_S64x512_S64x512_0_0).toLoadRect DK (ix2 k h) = dkOf c DK k h := by
  refine congrArg (DK : FVec Ideal S64x512 .f32) (funext fun a => Fin.ext ?_)
  fin_cases a
  · show 0 + 1 * k.val = k.val; omega
  · show 0 + 1 * h.val = h.val; omega
theorem db_at (h : Fin 512) :
    dbM.view.readAt (Elt Ideal) (Rect.unit (s := S1x512) ![0, 0] S1x512.size inb_S1x512_S1x512_0_0).toLoadRect DB (ix2 0 h) = dbOf c DB h := by
  refine congrArg (DB : FVec Ideal S1x512 .f32) (funext fun a => Fin.ext ?_)
  fin_cases a
  · show 0 + 1 * 0 = 0; omega
  · show 0 + 1 * h.val = h.val; omega
theorem lk_at (h : Fin 512) (l : Fin 128) :
    lkM.view.readAt (Elt Ideal) (Rect.unit (s := S512x128) ![0, 0] S512x128.size inb_S512x128_S512x128_0_0).toLoadRect LK (ix2 h l) = lkOf c LK h l := by
  refine congrArg (LK : FVec Ideal S512x128 .f32) (funext fun a => Fin.ext ?_)
  fin_cases a
  · show 0 + 1 * h.val = h.val; omega
  · show 0 + 1 * l.val = l.val; omega
theorem lb_at (l : Fin 128) :
    lbM.view.readAt (Elt Ideal) (Rect.unit (s := S1x128) ![0, 0] S1x128.size inb_S1x128_S1x128_0_0).toLoadRect LB (ix2 0 l) = lbOf c LB l := by
  refine congrArg (LB : FVec Ideal S1x128 .f32) (funext fun a => Fin.ext ?_)
  fin_cases a
  · show 0 + 1 * 0 = 0; omega
  · show 0 + 1 * l.val = l.val; omega

/-! ### The convolution, a block of rows at a time -/

/-- A block's graph. -/
theorem gr_block (b : Fin 8) (j : Fin 4) : gr (4 * b.val + j.val) = b := Fin.ext (by show (4 * b.val + j.val) / 4 % 8 = b.val; omega)

/-- A graph's weighted features. -/
theorem hblk_at (b : Fin 8) (n : Fin 2048) (f : Fin 32) :
    hblk c X CK b (ix3 0 n f) = ∑ k : Fin 64, xOf c X b n ⟨k.val, by omega⟩ * ckOf c CK k f := by
  rw [hblk, feat_at]
  exact Finset.sum_congr rfl fun k _ => by rw [feats_at, ck_at]

/-- A block's rows of the convolution before its bias. -/
theorem prodV_at (b : Fin 8) (j : Fin 4) (r : Fin 512) (f : Fin 32) :
    prodV c XA X CK (4 * b.val + j.val) (ix2 r f) = agg (xOf c X) (aOf c XA) (ckOf c CK) b (rowAt j r) f := by
  rw [prodV, prod_at, gr_block]
  exact Finset.sum_congr rfl fun n _ => by rw [blk_at, hblk_at]

/-- Those rows, zero where the node does not count. -/
theorem keptV_at (b : Fin 8) (j : Fin 4) (r : Fin 512) (f : Fin 32) :
    keptV c XA X CK (4 * b.val + j.val) (ix2 r f)
      = if good (xOf c X) b (rowAt j r) then agg (xOf c X) (aOf c XA) (ckOf c CK) b (rowAt j r) f else 0 := by
  rw [keptV, kept_at, col_at, ← prodV_at]
  rfl

/-- The value kept for the maximum: minus infinity where the node does not count. -/
theorem pick_at (b : Fin 8) (j : Fin 4) (r : Fin 512) (f : Fin 32) :
    (if colV c X (4 * b.val + j.val) (ix3 0 r 0) ≠ 0 then prodV c XA X CK (4 * b.val + j.val) (ix2 r f) else Scalar.ofBits (F := Ideal) .f32 0xFF800000#32)
      = if good (xOf c X) b (rowAt j r) then agg (xOf c X) (aOf c XA) (ckOf c CK) b (rowAt j r) f else (⊥ : EReal) := by
  rw [col_at, prodV_at, show Scalar.ofBits (F := Ideal) .f32 0xFF800000#32 = (⊥ : EReal) from minus_infinity]
  rfl

/-- A graph's running sum after its last block. -/
theorem sumV_at (b : Fin 8) (r : Fin 512) (f : Fin 32) :
    sumV c XA X CK b.val 3 (ix2 r f)
      = (fun n => if good (xOf c X) b n then agg (xOf c X) (aOf c XA) (ckOf c CK) b n f else 0) (rowAt 0 r)
        + (fun n => if good (xOf c X) b n then agg (xOf c X) (aOf c XA) (ckOf c CK) b n f else 0) (rowAt 1 r)
        + (fun n => if good (xOf c X) b n then agg (xOf c X) (aOf c XA) (ckOf c CK) b n f else 0) (rowAt 2 r)
        + (fun n => if good (xOf c X) b n then agg (xOf c X) (aOf c XA) (ckOf c CK) b n f else 0) (rowAt 3 r) := by
  show k0_pay9 (keptV c XA X CK (4 * b.val + 3)) (k0_pay9 (keptV c XA X CK (4 * b.val + 2)) (k0_pay9 (keptV c XA X CK (4 * b.val + 1)) (k0_pay7 (keptV c XA X CK (4 * b.val + 0))))) (ix2 r f) = _
  rw [sum1_at, sum1_at, sum1_at, sum0_at]
  exact congrArg₂ _ (congrArg₂ _ (congrArg₂ _ (keptV_at c XA X CK b 0 r f) (keptV_at c XA X CK b 1 r f)) (keptV_at c XA X CK b 2 r f)) (keptV_at c XA X CK b 3 r f)

/-- A graph's running maximum after its last block. -/
theorem maxV_at (b : Fin 8) (r : Fin 512) (f : Fin 32) :
    maxV c XA X CK b.val 3 (ix2 r f)
      = max (max (max ((fun n => if good (xOf c X) b n then agg (xOf c X) (aOf c XA) (ckOf c CK) b n f else (⊥ : EReal)) (rowAt 0 r))
          ((fun n => if good (xOf c X) b n then agg (xOf c X) (aOf c XA) (ckOf c CK) b n f else (⊥ : EReal)) (rowAt 1 r)))
          ((fun n => if good (xOf c X) b n then agg (xOf c X) (aOf c XA) (ckOf c CK) b n f else (⊥ : EReal)) (rowAt 2 r)))
          ((fun n => if good (xOf c X) b n then agg (xOf c X) (aOf c XA) (ckOf c CK) b n f else (⊥ : EReal)) (rowAt 3 r)) := by
  show k0_pay10 (prodV c XA X CK (4 * b.val + 3)) _ (k0_pay5 (colV c X (4 * b.val + 3)))
    (k0_pay10 (prodV c XA X CK (4 * b.val + 2)) _ (k0_pay5 (colV c X (4 * b.val + 2)))
      (k0_pay10 (prodV c XA X CK (4 * b.val + 1)) _ (k0_pay5 (colV c X (4 * b.val + 1)))
        (k0_pay8 (prodV c XA X CK (4 * b.val + 0)) _ (k0_pay5 (colV c X (4 * b.val + 0)))))) (ix2 r f) = _
  rw [max1_at, max1_at, max1_at, max0_at]
  exact congrArg₂ _ (congrArg₂ _ (congrArg₂ _ (pick_at c XA X CK b 0 r f) (pick_at c XA X CK b 1 r f)) (pick_at c XA X CK b 2 r f)) (pick_at c XA X CK b 3 r f)

/-! ### The row -/

/-- The means the kernel takes, the bias added afterwards, are the graph's means. -/
theorem mean_eq (b : Fin 8) (f : Fin 32) :
    Ideal.div (∑ r : Fin 512, sumV c XA X CK b.val 3 (ix2 r f)) (max (count (good (xOf c X) b)) 1) + cbOf c CB f * min (count (good (xOf c X) b)) 1
      = meanOf (xOf c X) (aOf c XA) (ckOf c CK) (cbOf c CB) b f := by
  rw [meanOf, mean_bias, ← sum_blocks]
  simp only [sumV_at]

/-- The maxima the kernel takes, the bias added and the floor applied afterwards, are the graph's maxima. -/
theorem top_eq (b : Fin 8) (f : Fin 32) (h : aboveFloor (xOf c X) (aOf c XA) (ckOf c CK) (cbOf c CB) b f) :
    max ((Finset.univ.sup fun r : Fin 512 => maxV c XA X CK b.val 3 (ix2 r f)) + cbOf c CB f) floorVal
      = topOf (xOf c X) (aOf c XA) (ckOf c CK) (cbOf c CB) b f := by
  rw [topOf, ← max_bias (good (xOf c X) b) _ _ _ h, ← sup_blocks]
  simp only [maxV_at]

/-- A graph's row of the result. -/
theorem outV_at (b : Fin 8) (l : Fin 128) (h : ∀ f, aboveFloor (xOf c X) (aOf c XA) (ckOf c CK) (cbOf c CB) b f) :
    outV c XA X CK CB DK DB LK LB b (ix3 0 0 l)
      = resultOf (xOf c X) (aOf c XA) (ckOf c CK) (cbOf c CB) (dkOf c DK) (dbOf c DB) (lkOf c LK) (lbOf c LB) b l := by
  rw [outV, label_at, resultOf, headOf, lb_at]
  refine congrArg (fun s : EReal => s + lbOf c LB l) (Finset.sum_congr rfl fun n _ => ?_)
  rw [hidden_at, lk_at, db_at, show Scalar.ofBits (F := Ideal) .f32 0x00000000#32 = (0 : EReal) from Ideal.ofBits_zero_f32]
  have ec : count (fun n : Fin 2048 => maskV c X b (ix3 0 n 0) ≠ 0) = count (good (xOf c X) b) := by
    unfold count
    refine Finset.sum_congr rfl fun n _ => ?_
    show (if maskV c X b (ix3 0 n 0) ≠ 0 then (1 : EReal) else 0) = _
    rw [mask_at]
    rfl
  rw [ec]
  refine congrArg (fun y : EReal => max (y + dbOf c DB n) 0 * lkOf c LK n l)
    (congrArg₂ (fun p q : EReal => p + q) (Finset.sum_congr rfl fun f _ => ?_) (Finset.sum_congr rfl fun f _ => ?_))
  · rw [cb_at, dk_at, mean_eq]
  · rw [cb_at, dk_at, top_eq _ _ _ _ _ _ _ (h f)]

end Cert.Proof.Gcn
end
-- ==== Proof.Result.lean ====
module

public import proofs.«01_k».proof.Proof.Row
public import proofs.«01_k».proof.Proof.Run

@[expose] public section

/-! The kernel's result, entry by entry, of the arguments: the staging buffers hold the arguments and the reshaped
biases, the region's one block is the whole output array, and the result is that array reshaped. -/

set_option maxRecDepth 16384

noncomputable section

namespace Cert.Proof.Gcn

open Cert.KernelIdeal Cert.KernelIdeal.Gen
open Idealize.ShloMosaic Idealize.ShloMosaic.Pointwise Idealize.ShloMosaic.TcCoe Idealize.SL.Sem

/-- A whole buffer's representative of contents is those contents. -/
theorem rep_whole {κ : Kind} (b : Ref sig κ) (x : b.ty.Contents (Elt Ideal)) :
    (Memref.whole b : Memref sig κ _ _ _).view.rep x = x := View.read_rep (Memref.whole b : Memref sig κ _ _ _).view x

variable (c : Dev nD) (m : (ℓ : Loc nD τ sig) → Buf (Elt Ideal) ℓ)

/-! ### What the region finds -/

set_option backward.isDefEq.respectTransparency.types false in
/-- Staging buffer 0 holds its array's block. -/
theorem X0_eq : X0 c m = iblk c m 0 t0_0 := rep_whole cc0_stg0_0 _
/-- That block is the whole array: the features. -/
theorem X0_at (b : Fin 8) (n : Fin 2048) (k : Fin 65) : xOf c (X0 c m) b n k = (V0 c m (Proc.devRef .tc main_arg0) : FVec Ideal S8x2048x65 .f32) (ix3 b n k) := by
  unfold xOf
  rw [X0_eq]
  refine congrArg (V0 c m (Proc.devRef .tc main_arg0) : FVec Ideal S8x2048x65 .f32) (funext fun a => Fin.ext ?_)
  change Fin 3 at a
  fin_cases a
  · show 0 * 8 + 1 * b.val = b.val; omega
  · show 0 * 2048 + 1 * n.val = n.val; omega
  · show 0 * 65 + 1 * k.val = k.val; omega

set_option backward.isDefEq.respectTransparency.types false in
/-- Staging buffer 1 holds its array's block. -/
theorem X1_eq : X1 c m = iblk c m 1 t0_0 := rep_whole cc0_stg1_0 _
/-- That block is the whole array: the convolution's weights. -/
theorem X1_at (k : Fin 64) (f : Fin 32) : ckOf c (X1 c m) k f = (V0 c m (Proc.devRef .tc main_arg2) : FVec Ideal S64x32 .f32) (ix2 k f) := by
  unfold ckOf
  rw [X1_eq]
  refine congrArg (V0 c m (Proc.devRef .tc main_arg2) : FVec Ideal S64x32 .f32) (funext fun a => Fin.ext ?_)
  change Fin 2 at a
  fin_cases a
  · show 0 * 64 + 1 * k.val = k.val; omega
  · show 0 * 32 + 1 * f.val = f.val; omega

set_option backward.isDefEq.respectTransparency.types false in
/-- Staging buffer 2 holds its array's block. -/
theorem X2_eq : X2 c m = iblk c m 2 t0_0 := rep_whole cc0_stg2_0 _
/-- That block is the whole array: the convolution's bias. -/
theorem X2_at (f : Fin 32) : cbOf c (X2 c m) f = (V0 c m (Proc.devRef .tc main_call0_v0) : FVec Ideal S1x32 .f32) (ix2 0 f) := by
  unfold cbOf
  rw [X2_eq]
  refine congrArg (V0 c m (Proc.devRef .tc main_call0_v0) : FVec Ideal S1x32 .f32) (funext fun a => Fin.ext ?_)
  change Fin 2 at a
  fin_cases a
  · show 0 * 1 + 1 * 0 = 0; omega
  · show 0 * 32 + 1 * f.val = f.val; omega
/-- The array is the argument, with an axis of one element before. -/
theorem bias2_at (f : Fin 32) :
    (V0 c m (Proc.devRef .tc main_call0_v0) : FVec Ideal S1x32 .f32) (ix2 0 f) = (m ((c.tc : Thread nD τ).loc main_arg3) : FVec Ideal S32 .f32) (ix1 f) := by
  have e : (V0 c m (Proc.devRef .tc main_call0_v0) : FVec Ideal S1x32 .f32)
      = shapeCast S1x32 (m ((c.tc : Thread nD τ).loc main_arg3) : FVec Ideal S32 .f32) Facts₀.shapeCasts_S32_S1x32 := rfl
  rw [e]
  pointwise []

set_option backward.isDefEq.respectTransparency.types false in
/-- Staging buffer 3 holds its array's block. -/
theorem X3_eq : X3 c m = iblk c m 3 t0_0 := rep_whole cc0_stg3_0 _
/-- That block is the whole array: the hidden layer's weights. -/
theorem X3_at (k : Fin 64) (h : Fin 512) : dkOf c (X3 c m) k h = (V0 c m (Proc.devRef .tc main_arg4) : FVec Ideal S64x512 .f32) (ix2 k h) := by
  unfold dkOf
  rw [X3_eq]
  refine congrArg (V0 c m (Proc.devRef .tc main_arg4) : FVec Ideal S64x512 .f32) (funext fun a => Fin.ext ?_)
  change Fin 2 at a
  fin_cases a
  · show 0 * 64 + 1 * k.val = k.val; omega
  · show 0 * 512 + 1 * h.val = h.val; omega

set_option backward.isDefEq.respectTransparency.types false in
/-- Staging buffer 4 holds its array's block. -/
theorem X4_eq : X4 c m = iblk c m 4 t0_0 := rep_whole cc0_stg4_0 _
/-- That block is the whole array: the hidden layer's bias. -/
theorem X4_at (h : Fin 512) : dbOf c (X4 c m) h = (V0 c m (Proc.devRef .tc main_call0_v1) : FVec Ideal S1x512 .f32) (ix2 0 h) := by
  unfold dbOf
  rw [X4_eq]
  refine congrArg (V0 c m (Proc.devRef .tc main_call0_v1) : FVec Ideal S1x512 .f32) (funext fun a => Fin.ext ?_)
  change Fin 2 at a
  fin_cases a
  · show 0 * 1 + 1 * 0 = 0; omega
  · show 0 * 512 + 1 * h.val = h.val; omega
/-- The array is the argument, with an axis of one element before. -/
theorem bias4_at (h : Fin 512) :
    (V0 c m (Proc.devRef .tc main_call0_v1) : FVec Ideal S1x512 .f32) (ix2 0 h) = (m ((c.tc : Thread nD τ).loc main_arg5) : FVec Ideal S512 .f32) (ix1 h) := by
  have e : (V0 c m (Proc.devRef .tc main_call0_v1) : FVec Ideal S1x512 .f32)
      = shapeCast S1x512 (m ((c.tc : Thread nD τ).loc main_arg5) : FVec Ideal S512 .f32) Facts₀.shapeCasts_S512_S1x512 := rfl
  rw [e]
  pointwise []

set_option backward.isDefEq.respectTransparency.types false in
/-- Staging buffer 5 holds its array's block. -/
theorem X5_eq : X5 c m = iblk c m 5 t0_0 := rep_whole cc0_stg5_0 _
/-- That block is the whole array: the output layer's weights. -/
theorem X5_at (h : Fin 512) (l : Fin 128) : lkOf c (X5 c m) h l = (V0 c m (Proc.devRef .tc main_arg6) : FVec Ideal S512x128 .f32) (ix2 h l) := by
  unfold lkOf
  rw [X5_eq]
  refine congrArg (V0 c m (Proc.devRef .tc main_arg6) : FVec Ideal S512x128 .f32) (funext fun a => Fin.ext ?_)
  change Fin 2 at a
  fin_cases a
  · show 0 * 512 + 1 * h.val = h.val; omega
  · show 0 * 128 + 1 * l.val = l.val; omega

set_option backward.isDefEq.respectTransparency.types false in
/-- Staging buffer 6 holds its array's block. -/
theorem X6_eq : X6 c m = iblk c m 6 t0_0 := rep_whole cc0_stg6_0 _
/-- That block is the whole array: the output layer's bias. -/
theorem X6_at (l : Fin 128) : lbOf c (X6 c m) l = (V0 c m (Proc.devRef .tc main_call0_v2) : FVec Ideal S1x128 .f32) (ix2 0 l) := by
  unfold lbOf
  rw [X6_eq]
  refine congrArg (V0 c m (Proc.devRef .tc main_call0_v2) : FVec Ideal S1x128 .f32) (funext fun a => Fin.ext ?_)
  change Fin 2 at a
  fin_cases a
  · show 0 * 1 + 1 * 0 = 0; omega
  · show 0 * 128 + 1 * l.val = l.val; omega
/-- The array is the argument, with an axis of one element before. -/
theorem bias6_at (l : Fin 128) :
    (V0 c m (Proc.devRef .tc main_call0_v2) : FVec Ideal S1x128 .f32) (ix2 0 l) = (m ((c.tc : Thread nD τ).loc main_arg7) : FVec Ideal S128 .f32) (ix1 l) := by
  have e : (V0 c m (Proc.devRef .tc main_call0_v2) : FVec Ideal S1x128 .f32)
      = shapeCast S1x128 (m ((c.tc : Thread nD τ).loc main_arg7) : FVec Ideal S128 .f32) Facts₀.shapeCasts_S128_S1x128 := rfl
  rw [e]
  pointwise []

/-! ### The result -/

/-- Graph `b`'s row, of the arguments. -/
theorem row_at (b : Fin 8) (l : Fin 128)
    (h : ∀ f, aboveFloor (fun b n k => (m ((c.tc : Thread nD τ).loc main_arg0) : FVec Ideal S8x2048x65 .f32) (ix3 b n k))
      (fun b n j => (m ((c.tc : Thread nD τ).loc main_arg1) : FVec Ideal S8x2048x2048 .f32) (ix3 b n j))
      (fun k f => (m ((c.tc : Thread nD τ).loc main_arg2) : FVec Ideal S64x32 .f32) (ix2 k f))
      (fun f => (m ((c.tc : Thread nD τ).loc main_arg3) : FVec Ideal S32 .f32) (ix1 f)) b f) :
    rowV c m b (ix3 0 0 l)
      = resultOf (fun b n k => (m ((c.tc : Thread nD τ).loc main_arg0) : FVec Ideal S8x2048x65 .f32) (ix3 b n k))
          (fun b n j => (m ((c.tc : Thread nD τ).loc main_arg1) : FVec Ideal S8x2048x2048 .f32) (ix3 b n j))
          (fun k f => (m ((c.tc : Thread nD τ).loc main_arg2) : FVec Ideal S64x32 .f32) (ix2 k f))
          (fun f => (m ((c.tc : Thread nD τ).loc main_arg3) : FVec Ideal S32 .f32) (ix1 f))
          (fun k h => (m ((c.tc : Thread nD τ).loc main_arg4) : FVec Ideal S64x512 .f32) (ix2 k h))
          (fun h => (m ((c.tc : Thread nD τ).loc main_arg5) : FVec Ideal S512 .f32) (ix1 h))
          (fun h l => (m ((c.tc : Thread nD τ).loc main_arg6) : FVec Ideal S512x128 .f32) (ix2 h l))
          (fun l => (m ((c.tc : Thread nD τ).loc main_arg7) : FVec Ideal S128 .f32) (ix1 l)) b l := by
  have e0 : xOf c (X0 c m) = fun b n k => (m ((c.tc : Thread nD τ).loc main_arg0) : FVec Ideal S8x2048x65 .f32) (ix3 b n k) :=
    funext fun b => funext fun n => funext fun k => (X0_at c m b n k).trans (congrFun (V0_arg c m main_arg0 (by decide)) _)
  have e1 : aOf c (XA c m) = fun b n j => (m ((c.tc : Thread nD τ).loc main_arg1) : FVec Ideal S8x2048x2048 .f32) (ix3 b n j) :=
    funext fun b => funext fun n => funext fun j => congrFun (V0_arg c m main_arg1 (by decide)) _
  have e2 : ckOf c (X1 c m) = fun k f => (m ((c.tc : Thread nD τ).loc main_arg2) : FVec Ideal S64x32 .f32) (ix2 k f) :=
    funext fun k => funext fun f => (X1_at c m k f).trans (congrFun (V0_arg c m main_arg2 (by decide)) _)
  have e3 : cbOf c (X2 c m) = fun f => (m ((c.tc : Thread nD τ).loc main_arg3) : FVec Ideal S32 .f32) (ix1 f) :=
    funext fun f => (X2_at c m f).trans (bias2_at c m f)
  have e4 : dkOf c (X3 c m) = fun k h => (m ((c.tc : Thread nD τ).loc main_arg4) : FVec Ideal S64x512 .f32) (ix2 k h) :=
    funext fun k => funext fun h => (X3_at c m k h).trans (congrFun (V0_arg c m main_arg4 (by decide)) _)
  have e5 : dbOf c (X4 c m) = fun h => (m ((c.tc : Thread nD τ).loc main_arg5) : FVec Ideal S512 .f32) (ix1 h) :=
    funext fun h => (X4_at c m h).trans (bias4_at c m h)
  have e6 : lkOf c (X5 c m) = fun h l => (m ((c.tc : Thread nD τ).loc main_arg6) : FVec Ideal S512x128 .f32) (ix2 h l) :=
    funext fun h => funext fun l => (X5_at c m h l).trans (congrFun (V0_arg c m main_arg6 (by decide)) _)
  have e7 : lbOf c (X6 c m) = fun l => (m ((c.tc : Thread nD τ).loc main_arg7) : FVec Ideal S128 .f32) (ix1 l) :=
    funext fun l => (X6_at c m l).trans (bias6_at c m l)
  rw [← e0, ← e1, ← e2, ← e3] at h
  rw [← e0, ← e1, ← e2, ← e3, ← e4, ← e5, ← e6, ← e7]
  exact outV_at c (XA c m) (X0 c m) (X1 c m) (X2 c m) (X3 c m) (X4 c m) (X5 c m) (X6 c m) b l h

/-- The output window's block is the whole array: an index of the block is that index of the array. -/
theorem emb7 (t : Fin (cfg0 (F := Ideal)).N) (y : S8x1x128.Idx) : ((cfg0 (F := Ideal)).win 7 |>.blk t).view.emb y = y := by
  refine funext fun a => Fin.ext ?_
  change Fin 3 at a
  fin_cases a
  · show 0 * 8 + 1 * (y 0).val = (y 0).val; omega
  · show 0 * 1 + 1 * (y 1).val = (y 1).val; omega
  · show 0 * 128 + 1 * (y 2).val = (y 2).val; omega

set_option backward.isDefEq.respectTransparency.types false in
/-- The region's output array at the end. -/
theorem arr7 : (dats m 0 c).arrAt 7 (cfg0 (F := Ideal)).N = outBlk c m := by
  refine Pipeline.Dat.arrAt_eq_of_cover (dats m 0 c) 7 (outBlk c m) (fun t _ => ?_) (fun i => ⟨t0_0, flush0_7 t0_0, ?_⟩)
  · refine funext fun y => ?_
    exact (congrArg (outBlk c m) (emb7 t y)).symm
  · exact emb7 t0_0 i ▸ View.emb_mem_set _ i

/-- The last operation reshapes that array. -/
theorem last (W : Valuation τ sig (Elt Ideal)) :
    (StableHlo.after hostOps1 W (Proc.devRef .tc main_v0) : FVec Ideal S8x128 .f32)
      = shapeCast S8x128 (W (Proc.devRef .tc main_call0_v3) : FVec Ideal S8x1x128 .f32) Facts₀.shapeCasts_S8x1x128_S8x128 := rfl

set_option backward.isDefEq.respectTransparency.types false in
/-- The result at an entry is its graph's row there. -/
theorem Vend_at (b : Fin 8) (l : Fin 128) : (Vend c m (Proc.devRef .tc main_v0) : FVec Ideal S8x128 .f32) (ix2 b l) = rowV c m b (ix3 0 0 l) := by
  unfold Vend
  rw [last]
  have e := (Pipeline.withArrays_arr spec0 (by decide) c
    (Pipeline.withR (V0 c m) ∅ c (fun b => V0 c m (Proc.devRef .tc b))) (fun w => (dats m 0 c).arrAt w (cfg0 (F := Ideal)).N) 7).trans (arr7 c m)
  have e' : (Pipeline.withArrays spec0 c (Pipeline.withR (V0 c m) ∅ c (fun b => V0 c m (Proc.devRef .tc b))) (fun w => (dats m 0 c).arrAt w (cfg0 (F := Ideal)).N)
    (Proc.devRef .tc main_call0_v3) : FVec Ideal S8x1x128 .f32) = outBlk c m := e
  rw [e']
  have e2 : shapeCast S8x128 (outBlk c m) Facts₀.shapeCasts_S8x1x128_S8x128 (ix2 b l) = outBlk c m (ix3 b 0 l) := by
    pointwise []
  rw [e2]
  refine congrArg (rowV c m b) (funext fun a => Fin.ext ?_)
  change Fin 3 at a
  fin_cases a <;> rfl

end Cert.Proof.Gcn
end
-- ==== Proof.lean ====
/-
  The claims about the kernel, put together from the modules beside this file.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_pooled_above_floor
public import proofs.«01_k».proof.Proof.Run
public import proofs.«01_k».proof.Proof.KernelRun
public import proofs.«01_k».proof.Proof.Ref
public import proofs.«01_k».proof.Proof.Result
public import Idealize.ShloMosaic.Lib.Quiescent

@[expose] public section

noncomputable section

namespace Cert.Proof

open Idealize.ShloMosaic Idealize.ShloMosaic.TcCoe

/-- The kernel as compiled terminates, with its arguments as they were and every semaphore counter zero. -/
theorem frame_kernel : Cert.quiescent_Kernel := fun m ρ _ =>
  GcnKernel.run_frame (F := Bits) m ρ

/-- So does the kernel over the reals. -/
theorem frame_kernelIdeal : Cert.quiescent_KernelIdeal := fun m ρ _ =>
  Gcn.run_frame (F := Ideal) m ρ

/-- So does the reference. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

open Idealize.ShloMosaic.Pointwise in
/-- Under the precondition, on the same arguments, the kernel's result is the reference's: entry by entry, both are the
    entry of the mathematics. -/
theorem value_eq (m : (ℓ : Loc Cert.KernelIdeal.nD Cert.KernelIdeal.τ Cert.KernelIdeal.sig) → Buf (Elt Ideal) ℓ)
    (hpre : Cert.Pre_KernelIdeal_pooled_above_floor m) (c : Dev Cert.KernelIdeal.nD) :
    Gcn.Ref.out (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
      = (Gcn.Vend c m (Proc.devRef .tc Cert.KernelIdeal.main_v0) : FVec Ideal Cert.KernelIdeal.S8x128 .f32) := by
  funext i
  rw [eq_ix2 i]
  exact (Gcn.Ref.out_at _ _ _ _ _ _ _ _ (i 0) (i 1)).trans
    ((Gcn.Vend_at c m (i 0) (i 1)).trans
      (Gcn.row_at c m (i 0) (i 1) fun f => Gcn.Ref.pre_at _ _ _ _ _ _ _ _ (hpre c) (i 0) f)).symm

/-- The kernel over the reals computes what the reference computes. -/
theorem value_kernel : Cert.algebraic_KernelIdeal_ReferenceIdeal_pre_pooled_above_floor := fun m g m' g' hpre hargs =>
  ⟨fun c => Gcn.Vend c m (Proc.devRef .tc Cert.KernelIdeal.main_v0),
    (θ_run Cert.KernelIdeal.defs _ _).mono (fun r h => h.1) (Gcn.run_main (F := Ideal) m g),
    (θ_run Cert.ReferenceIdeal.defs _ _).mono (fun r h c => ⟨by
      obtain ⟨e0, e1, e2, e3, e4, e5, e6, e7⟩ := hargs c
      refine (h c).1.trans ?_
      rw [e0, e1, e2, e3, e4, e5, e6, e7]
      exact value_eq m hpre c, (h c).2⟩) (Gcn.Ref.run_out m' g')⟩

/-- The claims, all together. -/
theorem claim : Cert.Claim :=
  ⟨Cert.Kernel.Gen.facts, Cert.KernelIdeal.Gen.facts, Cert.ReferenceIdeal.Gen.facts, Cert.Pre_pooled_above_floor.Gen.facts,
    frame_kernel, frame_kernelIdeal, fun m ρ _ => Gcn.run_frame (F := Ideal) m ρ, frame_referenceIdeal,
    fun m ρ _ => frame_referenceIdeal m ρ True.intro, trivial, value_kernel⟩

end Cert.Proof

end
